-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S3x4x128x256 : Shape := ⟨4, ![3, 4, 128, 256]⟩
abbrev S3x4 : Shape := ⟨2, ![3, 4]⟩
abbrev S_ : Shape := ⟨0, ![]⟩
abbrev S128x256 : Shape := ⟨2, ![128, 256]⟩
abbrev S1x1x128x256 : Shape := ⟨4, ![1, 1, 128, 256]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S512x256, .f32⟩
  | .local _ .vmem, ⟨0, _⟩ => ⟨S512x256, .bf16⟩
  | .local _ .vmem, ⟨1, _⟩ => ⟨S512x256, .f32⟩
  | .local _ .vmem, ⟨2, _⟩ => ⟨S3x4x128x256, .bf16⟩
  | .local _ .vmem, ⟨3, _⟩ => ⟨S3x4x128x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v18 : BitVec 32 := Scalar.xori v2 c1_i32_15
  let c1_i32_24 : BitVec 32 := 1#32
  let v19 : BitVec 32 := Scalar.muli v18 c1_i32_24
  let v20 : BitVec 32 := Scalar.addi c0_i32_25 v19
  v20.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v34 : BitVec 32 := Scalar.xori v2 c1_i32_34
  let c1_i32_43 : BitVec 32 := 1#32
  let v35 : BitVec 32 := Scalar.muli v34 c1_i32_43
  let v36 : BitVec 32 := Scalar.addi c0_i32_44 v35
  v36.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v50 : BitVec 32 := Scalar.xori v2 c1_i32_53
  let c1_i32_61 : BitVec 32 := 1#32
  let v51 : BitVec 32 := Scalar.muli v50 c1_i32_61
  let v52 : BitVec 32 := Scalar.addi c0_i32_62 v51
  v52.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_71 : BitVec 32 := 1#32
  let v66 : BitVec 32 := Scalar.xori v2 c1_i32_71
  let c1_i32_80 : BitVec 32 := 1#32
  let v67 : BitVec 32 := Scalar.muli v66 c1_i32_80
  let v68 : BitVec 32 := Scalar.addi c0_i32_81 v67
  v68.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v99 : BitVec 32 := Scalar.xori v2 c3_i32_125
  let c1_i32_134 : BitVec 32 := 1#32
  let v100 : BitVec 32 := Scalar.muli v99 c1_i32_134
  let v101 : BitVec 32 := Scalar.addi c0_i32_135 v100
  v101.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_179 : BitVec 32 := 3#32
  let v132 : BitVec 32 := Scalar.xori v2 c3_i32_179
  let c1_i32_188 : BitVec 32 := 1#32
  let v133 : BitVec 32 := Scalar.muli v132 c1_i32_188
  let v134 : BitVec 32 := Scalar.addi c0_i32_189 v133
  v134.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_233 : BitVec 32 := 3#32
  let v165 : BitVec 32 := Scalar.xori v2 c3_i32_233
  let c1_i32_242 : BitVec 32 := 1#32
  let v166 : BitVec 32 := Scalar.muli v165 c1_i32_242
  let v167 : BitVec 32 := Scalar.addi c0_i32_243 v166
  v167.toNat
def k0_dev11 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_287 : BitVec 32 := 3#32
  let v198 : BitVec 32 := Scalar.xori v2 c3_i32_287
  let c1_i32_296 : BitVec 32 := 1#32
  let v199 : BitVec 32 := Scalar.muli v198 c1_i32_296
  let v200 : BitVec 32 := Scalar.addi c0_i32_297 v199
  v200.toNat
def k0_dev12 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_341 : BitVec 32 := 4#32
  let v231 : BitVec 32 := Scalar.xori v2 c4_i32_341
  let c1_i32_350 : BitVec 32 := 1#32
  let v232 : BitVec 32 := Scalar.muli v231 c1_i32_350
  let v233 : BitVec 32 := Scalar.addi c0_i32_351 v232
  v233.toNat
def k0_dev13 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_395 : BitVec 32 := 4#32
  let v264 : BitVec 32 := Scalar.xori v2 c4_i32_395
  let c1_i32_404 : BitVec 32 := 1#32
  let v265 : BitVec 32 := Scalar.muli v264 c1_i32_404
  let v266 : BitVec 32 := Scalar.addi c0_i32_405 v265
  v266.toNat
def k0_dev14 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_449 : BitVec 32 := 4#32
  let v297 : BitVec 32 := Scalar.xori v2 c4_i32_449
  let c1_i32_458 : BitVec 32 := 1#32
  let v298 : BitVec 32 := Scalar.muli v297 c1_i32_458
  let v299 : BitVec 32 := Scalar.addi c0_i32_459 v298
  v299.toNat
def k0_dev15 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v330 : BitVec 32 := Scalar.xori v2 c4_i32_503
  let c1_i32_512 : BitVec 32 := 1#32
  let v331 : BitVec 32 := Scalar.muli v330 c1_i32_512
  let v332 : BitVec 32 := Scalar.addi c0_i32_513 v331
  v332.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S8x512x256 : Shape := ⟨3, ![8, 512, 256]⟩
abbrev S_ : Shape := ⟨0, ![]⟩
abbrev S512x256 : Shape := ⟨2, ![512, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S8x512x256, .bf16⟩
  | .hbm, ⟨2, _⟩ => ⟨S8x512x256, .f32⟩
  | .hbm, ⟨3, _⟩ => ⟨S_, .f32⟩
  | .hbm, ⟨4, _⟩ => ⟨S512x256, .f32⟩
  | .hbm, ⟨5, _⟩ => ⟨S512x256, .bf16⟩
  | .hbm, ⟨6, _⟩ => ⟨S_, .bf16⟩
  | .hbm, ⟨7, _⟩ => ⟨S512x256, .bf16⟩
  | .hbm, ⟨8, _⟩ => ⟨S512x256, .bf16⟩
  | .hbm, ⟨9, _⟩ => ⟨S512x256, .bf16⟩
  | .hbm, ⟨10, _⟩ => ⟨S512x256, .bf16⟩
  | .hbm, ⟨11, _⟩ => ⟨S512x256, .bf16⟩
  | .hbm, ⟨12, _⟩ => ⟨S512x256, .bf16⟩
  | .hbm, ⟨13, _⟩ => ⟨S512x256, .bf16⟩
  | .hbm, ⟨14, _⟩ => ⟨S512x256, .bf16⟩
  | .hbm, ⟨15, _⟩ => ⟨S512x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.Protocol.lean ====
/-
# The protocol of the hypercube all-reduce

Eight devices exchange in three steps, step `k` between the devices whose numbers differ by the mask `1`, `3`, `4`.
Every device keeps one send slot and one receive slot for each step and each of four row chunks, and one pair of
transfer semaphores for each slot pair. This module names the partners, the slots and the semaphores, says what each
slot holds, and states the schedule: which device pays what to which semaphore, and what it hands over by it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's rounds, and the all-reduce's with up to three duties a cell -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Partners -/

/-- A step and a row chunk. -/
abbrev KH : Type := Fin 3 × Fin 4

def mask (k : ℕ) : ℕ := if k = 0 then 1 else if k = 1 then 3 else 4

theorem mask_lt (k : ℕ) (c : Dev nD) : c.val ^^^ mask k < nD := by
  have h : mask k < 2 ^ 3 := by unfold mask; split <;> [decide; split <;> decide]
  exact Nat.xor_lt_two_pow (n := 3) c.isLt h

/-- The partner of a device in step `k`. -/
def peer (k : ℕ) (c : Dev nD) : Dev nD := ⟨c.val ^^^ mask k, mask_lt k c⟩

theorem peer_peer (k : ℕ) (c : Dev nD) : peer k (peer k c) = c :=
  Fin.ext (by unfold peer; dsimp only; rw [Nat.xor_assoc, Nat.xor_self, Nat.xor_zero])

/-- Partnership as a permutation of the devices. -/
def swap (k : ℕ) : Dev nD ≃ Dev nD := ⟨peer k, peer k, peer_peer k, peer_peer k⟩

/-- The device numbers the kernel computes are the partners': three for the signals, four for each step's transfers. -/
theorem dev_sig (c : Dev nD) : (⟨k0_dev1 c, k0_dev1_lt c⟩ : Dev nD) = peer 0 c ∧ (⟨k0_dev2 c, k0_dev2_lt c⟩ : Dev nD) = peer 1 c
    ∧ (⟨k0_dev3 c, k0_dev3_lt c⟩ : Dev nD) = peer 2 c := by revert c; decide +kernel
theorem dev_step0 (c : Dev nD) : (⟨k0_dev4 c, k0_dev4_lt c⟩ : Dev nD) = peer 0 c ∧ (⟨k0_dev5 c, k0_dev5_lt c⟩ : Dev nD) = peer 0 c
    ∧ (⟨k0_dev6 c, k0_dev6_lt c⟩ : Dev nD) = peer 0 c ∧ (⟨k0_dev7 c, k0_dev7_lt c⟩ : Dev nD) = peer 0 c := by revert c; decide +kernel
theorem dev_step1 (c : Dev nD) : (⟨k0_dev8 c, k0_dev8_lt c⟩ : Dev nD) = peer 1 c ∧ (⟨k0_dev9 c, k0_dev9_lt c⟩ : Dev nD) = peer 1 c
    ∧ (⟨k0_dev10 c, k0_dev10_lt c⟩ : Dev nD) = peer 1 c ∧ (⟨k0_dev11 c, k0_dev11_lt c⟩ : Dev nD) = peer 1 c := by revert c; decide +kernel
theorem dev_step2 (c : Dev nD) : (⟨k0_dev12 c, k0_dev12_lt c⟩ : Dev nD) = peer 2 c ∧ (⟨k0_dev13 c, k0_dev13_lt c⟩ : Dev nD) = peer 2 c
    ∧ (⟨k0_dev14 c, k0_dev14_lt c⟩ : Dev nD) = peer 2 c ∧ (⟨k0_dev15 c, k0_dev15_lt c⟩ : Dev nD) = peer 2 c := by revert c; decide +kernel

/-! ## Buffers, slots, semaphores -/

abbrev xM : Memref sig .tc .vmem S512x256 .bf16 := Memref.whole cc0_stg0_0
abbrev oM : Memref sig .tc .vmem S512x256 .f32 := Memref.whole cc0_stg1_0
abbrev sM : Memref sig .tc .vmem S3x4x128x256 .bf16 := Memref.whole cc0_scratch0
abbrev rM : Memref sig .tc .vmem S3x4x128x256 .bf16 := Memref.whole cc0_scratch1

theorem slot_inb (kh : KH) : ∀ a, (![kh.1.val, kh.2.val, 0, 0] : Fin 4 → ℕ) a + S1x1x128x256.size a ≤ S3x4x128x256.size a := by
  revert kh; decide
theorem sem_inb (kh : KH) : ∀ a, (![kh.1.val, kh.2.val] : Fin 2 → ℕ) a + S1x1.size a ≤ S3x4.size a := by
  revert kh; decide
theorem row_inb (h : Fin 4) : ∀ a, (![128 * h.val, 0] : Fin 2 → ℕ) a + S128x256.size a ≤ S512x256.size a := by
  revert h; decide

/-- The slot of a step and chunk in a scratch buffer; the rows of a chunk in a staging buffer. -/
abbrev slotR (kh : KH) : Rect S3x4x128x256 := Rect.unit (s := S3x4x128x256) ![kh.1.val, kh.2.val, 0, 0] S1x1x128x256.size (slot_inb kh)
abbrev rowR (h : Fin 4) : Rect S512x256 := Rect.unit (s := S512x256) ![128 * h.val, 0] S128x256.size (row_inb h)

abbrev sSlot (kh : KH) : Memref sig .tc .vmem S1x1x128x256 .bf16 := sM.slice (slotR kh) (fun _ => rfl)
abbrev rSlot (kh : KH) : Memref sig .tc .vmem S1x1x128x256 .bf16 := rM.slice (slotR kh) (fun _ => rfl)
abbrev oRows (h : Fin 4) : Memref sig .tc .vmem S128x256 .f32 := oM.slice (rowR h) (fun _ => rfl)

abbrev sFlat (kh : KH) : Memref sig .tc .vmem S128x256 .bf16 := (sSlot kh).squeeze S128x256 squeezes_S1x1x128x256_S128x256
abbrev rFlat (kh : KH) : Memref sig .tc .vmem S128x256 .bf16 := (rSlot kh).squeeze S128x256 squeezes_S1x1x128x256_S128x256

abbrev barS : Sem sig := (SemArray.scalar (sig.barrier 0 rfl) : Sems sig S_).sem
abbrev sendS (kh : KH) : DmaSem sig :=
  (((cc0_scratch2 : DmaSems sig S3x4).slice (Rect.unit (s := S3x4) ![kh.1.val, kh.2.val] S1x1.size (sem_inb kh))).squeeze S_ squeezes_S1x1_S_).sem
abbrev recvS (kh : KH) : DmaSem sig :=
  (((cc0_scratch3 : DmaSems sig S3x4).slice (Rect.unit (s := S3x4) ![kh.1.val, kh.2.val] S1x1.size (sem_inb kh))).squeeze S_ squeezes_S1x1_S_).sem

/-- Closed forms of the semaphores' places. -/
theorem sendS_val (kh : KH) : (sendS kh).val = 2 + 4 * kh.1.val + kh.2.val := by revert kh; decide +kernel
theorem recvS_val (kh : KH) : (recvS kh).val = 14 + 4 * kh.1.val + kh.2.val := by revert kh; decide +kernel

theorem sendS_inj {a b : KH} (h : sendS a = sendS b) : a = b := by
  have h' := congrArg Fin.val h; rw [sendS_val, sendS_val] at h'
  obtain ⟨k, i⟩ := a; obtain ⟨k', i'⟩ := b
  simp only at h'; refine Prod.ext (Fin.ext ?_) (Fin.ext ?_) <;> simp only <;> omega
theorem recvS_inj {a b : KH} (h : recvS a = recvS b) : a = b := by
  have h' := congrArg Fin.val h; rw [recvS_val, recvS_val] at h'
  obtain ⟨k, i⟩ := a; obtain ⟨k', i'⟩ := b
  simp only at h'; refine Prod.ext (Fin.ext ?_) (Fin.ext ?_) <;> simp only <;> omega
theorem sendS_ne_recvS (a b : KH) : sendS a ≠ recvS b := fun h => by
  have h' := congrArg Fin.val h; rw [sendS_val, recvS_val] at h'
  obtain ⟨k, i⟩ := a; obtain ⟨k', i'⟩ := b; simp only at h'; omega

/-- A device's own transfer cells: the send cells and the receive cells. -/
abbrev KX : Type := KH ⊕ KH
abbrev osem : KX → SemLoc sig := fun | .inl kh => .dma (sendS kh) | .inr kh => .dma (recvS kh)
/-- All its cells: the barrier's and the transfer cells. -/
abbrev CI : Type := Unit ⊕ KX
abbrev csem : CI → SemLoc sig := fun | .inl _ => .reg barS | .inr x => osem x

abbrev cell (c : Dev nD) (i : CI) : GSem nD τ sig := ((c : Thread nD τ), csem i)
abbrev barCell (c : Dev nD) : GSem nD τ sig := ((c : Thread nD τ), .reg barS)
abbrev sendCell (c : Dev nD) (kh : KH) : GSem nD τ sig := ((c : Thread nD τ), .dma (sendS kh))
abbrev recvCell (c : Dev nD) (kh : KH) : GSem nD τ sig := ((c : Thread nD τ), .dma (recvS kh))

theorem osem_inj : Function.Injective osem := by
  rintro (a | a) (b | b) h
  · exact congrArg Sum.inl (sendS_inj (SemLoc.dma.inj h))
  · exact absurd (SemLoc.dma.inj h) (sendS_ne_recvS a b)
  · exact absurd (SemLoc.dma.inj h).symm (sendS_ne_recvS b a)
  · exact congrArg Sum.inr (recvS_inj (SemLoc.dma.inj h))
theorem osem_ne_bar (x : KX) : osem x ≠ .reg barS := by rcases x with a | a <;> exact fun h => by cases h
theorem csem_inj : Function.Injective csem := by
  rintro (a | a) (b | b) h
  · rfl
  · exact absurd h.symm (osem_ne_bar b)
  · exact absurd h (osem_ne_bar a)
  · exact congrArg Sum.inr (osem_inj h)

/-- What one slot's transfer credits a semaphore with. -/
abbrev N : ℕ := (rFlat (0, 0)).view.dmaCredit
theorem N_pos : 0 < N := View.dmaCredit_pos _ (by decide)
theorem credit_recv (kh : KH) : (rFlat kh).view.dmaCredit = N := rfl
theorem credit_send (kh : KH) : (sFlat kh).view.dmaCredit = N := rfl

/-! ## Contents -/

/-- The block of `t` staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- Chunk `h` of the sum over the devices reached after `k` steps, as device `c` has it. -/
def acc : ℕ → Dev nD → Fin 4 → FVec F S1x1x128x256 .bf16
  | 0, c, h => k0_pay2 ((xM : Memref sig .tc .vmem S512x256 .bf16).view.readAt (Elt F) (rowR h).toLoadRect (xstg m ρ c))
  | k + 1, c, h => k0_pay9 (acc k c h) (acc k (peer k c) h)

/-- Chunk `h` of the result. -/
def outRow (c : Dev nD) (h : Fin 4) : FVec F S128x256 .f32 := k0_pay16 (acc m ρ 2 c h) (acc m ρ 2 (peer 2 c) h)

/-- A receive slot at some contents. -/
def freeSlot (c : Dev nD) (kh : KH) : sProp 𝕄 := iprop(∃ v, owns (c : Thread nD τ) (rSlot kh) fullShare v)
/-- The send slot, and the receive slot, of step and chunk `kh` in use. -/
def sentSlot (c : Dev nD) (kh : KH) : sProp 𝕄 := owns (c : Thread nD τ) (sSlot kh) fullShare (acc m ρ kh.1.val c kh.2)
def landedSlot (c : Dev nD) (kh : KH) : sProp 𝕄 := owns (c : Thread nD τ) (rSlot kh) fullShare (acc m ρ kh.1.val (peer kh.1.val c) kh.2)

omit [FloatOps F] in
instance freeSlot_storable (c : Dev nD) (kh : KH) : BI.Storable (upEmb : UEmb _ 𝕄) (freeSlot (F := F) c kh) := by
  unfold freeSlot; infer_instance
instance sentSlot_storable (c : Dev nD) (kh : KH) : BI.Storable (upEmb : UEmb _ 𝕄) (sentSlot (F := F) m ρ c kh) := by
  unfold sentSlot; infer_instance
instance landedSlot_storable (c : Dev nD) (kh : KH) : BI.Storable (upEmb : UEmb _ 𝕄) (landedSlot (F := F) m ρ c kh) := by
  unfold landedSlot; infer_instance

/-! ## The schedule -/

/-- What the step-`k` partner's signal hands `c`: the partner's receive slots of step `k`. -/
def barPay (c : Dev nD) (k : Fin 3) : sProp 𝕄 := bigSep Finset.univ fun h : Fin 4 => freeSlot (peer k.val c) (k, h)

omit [FloatOps F] in
instance barPay_storable (c : Dev nD) (k : Fin 3) : BI.Storable (upEmb : UEmb _ 𝕄) (barPay (F := F) c k) := by
  unfold barPay; infer_instance

/-- The payload of a cell by its index. -/
def payAt (c : Dev nD) : CI → Fin 3 → sProp 𝕄
  | .inl _, k => barPay c k
  | .inr (.inl kh), _ => sentSlot m ρ c kh
  | .inr (.inr kh), _ => landedSlot m ρ c kh

instance payAt_storable (c : Dev nD) (i : CI) (k : Fin 3) : BI.Storable (upEmb : UEmb _ 𝕄) (payAt (F := F) m ρ c i k) := by
  rcases i with _ | (_ | _) <;> (unfold payAt; infer_instance)

/-- The index of a cell among a device's, if it is one of the protocol's. -/
def which (g : GSem nD τ sig) : Option CI := if h : ∃ i, csem i = g.2 then some h.choose else none

theorem which_cell (c : Dev nD) (i : CI) : which (cell c i) = some i := by
  have h : ∃ j, csem j = (cell c i).2 := ⟨i, rfl⟩
  unfold which; rw [dif_pos h]; exact congrArg some (csem_inj h.choose_spec)

/-- The duties of a cell: one for each partner on the barrier, one on a transfer cell. -/
def dutiesOf : CI → Finset (Fin 3) | .inl _ => Finset.univ | .inr _ => {0}
def amountOf' : CI → ℕ | .inl _ => 1 | .inr _ => N

/-- One round a cell. -/
def sched : Rounds.Schedule (GSem nD τ sig) (Fin 3) 𝕄 where
  duties g r := if r = 0 ∧ g.1.2 = .tc then (which g).elim ∅ dutiesOf else ∅
  unitless _ := False
  amount g _ _ := (which g).elim 1 amountOf'
  payload g _ d := (which g).elim iprop(emp) fun i => payAt m ρ g.1.1 i d
  amount_pos g _ _ _ := by
    rcases which g with _ | (_ | _)
    · exact Nat.one_pos
    · exact Nat.one_pos
    · exact N_pos

instance sched_storable (g : GSem nD τ sig) (r : ℕ) (d : Fin 3) :
    BI.Storable (upEmb : UEmb _ 𝕄) ((sched (F := F) m ρ).payload g r d) := by
  show BI.Storable upEmb ((which g).elim iprop(emp) fun i => payAt m ρ g.1.1 i d)
  rcases which g with _ | i
  · show BI.Storable upEmb iprop(emp); infer_instance
  · show BI.Storable upEmb (payAt m ρ g.1.1 i d); infer_instance

section Sched
variable (c : Dev nD) (i : CI)

theorem duties_cell : (sched (F := F) m ρ).duties (cell c i) 0 = dutiesOf i := by
  dsimp only [sched]; rw [if_pos ⟨rfl, rfl⟩, which_cell]; rfl
theorem duties_later (g : GSem nD τ sig) : ∀ r, 1 ≤ r → (sched (F := F) m ρ).duties g r = ∅ :=
  fun r hr => by dsimp only [sched]; rw [if_neg fun h => by omega]
theorem amount_cell (d : Fin 3) : (sched (F := F) m ρ).amount (cell c i) 0 d = amountOf' i := by
  dsimp only [sched]; rw [which_cell]; rfl
theorem payload_cell (d : Fin 3) : (sched (F := F) m ρ).payload (cell c i) 0 d = payAt m ρ c i d := by
  dsimp only [sched]; rw [which_cell]; rfl
theorem expect_bar : (sched (F := F) m ρ).expect (cell c (.inl ())) 0 = 3 := by
  unfold Schedule.expect Schedule.amountOf
  rw [duties_cell, Finset.sum_congr rfl fun d _ => amount_cell m ρ c (.inl ()) d, Finset.sum_const]; rfl
theorem expect_xfer (x : KX) : (sched (F := F) m ρ).expect (cell c (.inr x)) 0 = N := by
  unfold Schedule.expect Schedule.amountOf
  rw [duties_cell, show dutiesOf (.inr x) = {0} from rfl, Finset.sum_singleton, amount_cell]; rfl
/-- The whole round of a transfer cell is its one payload; that of the barrier cell the three partners'. -/
theorem rest_xfer (x : KX) : bigSep ((sched (F := F) m ρ).duties (cell c (.inr x)) 0 \ ∅) (fun d => (sched (F := F) m ρ).payload (cell c (.inr x)) 0 d)
    = payAt m ρ c (.inr x) 0 := by
  rw [Finset.sdiff_empty, duties_cell, show dutiesOf (.inr x) = {0} from rfl, bigSep_singleton, payload_cell]
theorem rest_bar : bigSep ((sched (F := F) m ρ).duties (cell c (.inl ())) 0 \ ∅) (fun d => (sched (F := F) m ρ).payload (cell c (.inl ())) 0 d)
    = bigSep Finset.univ fun k : Fin 3 => barPay c k := by
  rw [Finset.sdiff_empty, duties_cell]
  exact bigSep_congr fun d _ => payload_cell m ρ c (.inl ()) d

end Sched

/-! ## Debts and levels -/

/-- What a device still owes before the transfers in the list `l`: each credits the partner's receive cell. -/
def debt (c : Dev nD) : List KH → CellTallies nD τ sig Unit
  | [] => 0
  | kh :: l => debt c l + tallyAt (recvCell (peer kh.1.val c) kh) () N

/-- The transfers in program order. -/
def order : List KH := [(0, 0), (0, 1), (0, 2), (0, 3), (1, 0), (1, 1), (1, 2), (1, 3), (2, 0), (2, 1), (2, 2), (2, 3)]

theorem order_nodup : order.Nodup := by decide
theorem mem_order (kh : KH) : kh ∈ order := by revert kh; decide

/-- At launch a device owes its three signals and all its transfers. -/
def O₀ (c : Dev nD) : CellTallies nD τ sig Unit :=
  debt c order + tallyAt (barCell (peer 2 c)) () 1 + tallyAt (barCell (peer 1 c)) () 1 + tallyAt (barCell (peer 0 c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier below the receive cells, those by step; staging and send cells below all. -/
def lv (g : GSem nD τ sig) (_ : Unit) : ℕ :=
  match which g with
  | some (.inl _) => 1
  | some (.inr (.inr kh)) => 2 + kh.1.val
  | _ => 0

theorem lv_cell (c : Dev nD) (i : CI) : lv (cell c i) () = match i with | .inl _ => 1 | .inr (.inr kh) => 2 + kh.1.val | .inr (.inl _) => 0 := by
  unfold lv; rw [which_cell]; rcases i with _ | (_ | _) <;> rfl

theorem lv_stage (c : Dev nD) (q : DmaSem sig) (hq : q.val < 2) : lv ((c : Thread nD τ), .dma q) () = 0 := by
  have : which ((c : Thread nD τ), .dma q) = none := by
    unfold which; refine dif_neg ?_
    rintro ⟨i, hi⟩
    rcases i with _ | (a | a)
    · cases hi
    · have := congrArg Fin.val (SemLoc.dma.inj hi); rw [sendS_val] at this; omega
    · have := congrArg Fin.val (SemLoc.dma.inj hi); rw [recvS_val] at this; omega
  unfold lv; rw [this]

theorem debt_pos {c : Dev nD} {l : List KH} {g : GSem nD τ sig} {u : Unit} (h : 0 < debt c l g u) :
    ∃ kh ∈ l, g = recvCell (peer kh.1.val c) kh := by
  induction l with
  | nil => exact absurd h (Nat.lt_irrefl 0)
  | cons kh l ih =>
    unfold debt at h
    rw [Pi.add_apply, Finsupp.add_apply, tallyAt_apply] at h
    by_cases hg : g = recvCell (peer kh.1.val c) kh
    · exact ⟨kh, List.mem_cons_self, hg⟩
    · rw [if_neg (fun h' => hg h'.1), Nat.add_zero] at h
      obtain ⟨kh', hm, he⟩ := ih h
      exact ⟨kh', List.mem_cons_of_mem _ hm, he⟩

/-- A device may wait on a cell below every receive cell it still owes. -/
theorem mayWait_debt (c : Dev nD) (sm : SemLoc sig) (n : ℕ) (hn : lv ((c : Thread nD τ), sm) () ≤ n) (l : List KH)
    (hl : ∀ kh ∈ l, n < 2 + kh.1.val) : (levAts L lv : sProp 𝕄) ⊢ MayWait (c : Thread nD τ) sm () (debt c l) :=
  MayOwe.of_cut (L := L) (lev := lv) n (fun p hp => by rw [Finset.mem_singleton.mp hp, L_tc]; exact Finset.mem_singleton_self _)
    (fun g u hg => by obtain ⟨kh, _, rfl⟩ := debt_pos hg; exact Finset.mem_singleton_self _)
    (fun p hp => by rw [Finset.mem_singleton.mp hp]; exact hn)
    (fun g u hg => by
      obtain ⟨kh, hm, rfl⟩ := debt_pos hg
      show n < lv (cell (peer kh.1.val c) (.inr (.inr kh))) ()
      rw [lv_cell]; exact hl kh hm)

theorem O₀_pos {c : Dev nD} {g : GSem nD τ sig} {u : Unit} (h : 0 < O₀ c g u) :
    (∃ kh ∈ order, g = recvCell (peer kh.1.val c) kh) ∨ ∃ k, g = barCell (peer k c) := by
  unfold O₀ at h
  rw [Pi.add_apply, Finsupp.add_apply, Pi.add_apply, Finsupp.add_apply, Pi.add_apply, Finsupp.add_apply, tallyAt_apply, tallyAt_apply, tallyAt_apply] at h
  by_contra hn
  have hb : ∀ k, g ≠ barCell (peer k c) := fun k hk => hn (Or.inr ⟨k, hk⟩)
  rw [if_neg (fun h' => hb 2 h'.1), if_neg (fun h' => hb 1 h'.1), if_neg (fun h' => hb 0 h'.1)] at h
  simp only [Nat.add_zero] at h
  exact hn (Or.inl (debt_pos h))

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨kh, _, rfl⟩ | ⟨k, rfl⟩ <;> exact Finset.mem_singleton_self _)
      (fun p hp => by rw [Finset.mem_singleton.mp hp]; exact (lv_stage c q hq).le)
      (fun g u hg => by
        rcases O₀_pos hg with ⟨kh, _, rfl⟩ | ⟨k, rfl⟩
        · show 0 < lv (cell (peer kh.1.val c) (.inr (.inr kh))) ()
          rw [lv_cell]; exact Nat.lt_of_lt_of_le Nat.two_pos (Nat.le_add_right _ _)
        · show 0 < lv (cell (peer k c) (.inl ())) ()
          rw [lv_cell]; exact Nat.one_pos)
  · rw [MayWait_zero]; iintro -; iempintro

end Cert.AllReduce

end
-- ==== Proof.Steps.lean ====
/-
# The kernel's two recurring steps

The body is nothing but signals, one barrier wait, and two groups of operations that recur for every step and chunk:
filling a send slot and sending it (`step_put`), and waiting for a transfer out and in and reading both slots
(`step_get`). Each is proved here once, for any step and chunk.
-/
module

public import proofs.«01_k».proof.Proof.Protocol

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Loads and stores of an owned slice -/

section Slices
variable (c : Dev nD) {s : Shape} {e : EltTy} {mm : Memref sig .tc .vmem s e} {r : Rect s} {hr : ∀ a, r.stride a = 1}

/-- Loading the rectangle of an owned slice reads the slice's contents. -/
theorem wp_load_slice {α : Type} {Q : α → sProp 𝕄} {hl : mm.view.LoadsAt r} {k : (r.shape.Idx → Elt F e) → Prog (TpuEff nD τ sig (Elt F) Λ₀ .tc) α}
    {v : r.shape.Idx → Elt F e} :
    (owns (c : Thread nD τ) (mm.slice r hr) fullShare v : sProp 𝕄)
      ⊢ iprop((owns (c : Thread nD τ) (mm.slice r hr) fullShare v -∗ wp frame (wpE (defs₀ (F := F)) 𝒱₀ (c : Thread nD τ) none) Set.univ (k v) Q)
        -∗ wp frame (wpE (defs₀ (F := F)) 𝒱₀ (c : Thread nD τ) none) Set.univ (.op (.load mm r hl) k) Q) := by
  unfold owns
  iintro ⟨%f, %hf, H⟩ Hk
  iapply (wp_load_rect 𝒱₀ (c : Thread nD τ) none Set.univ (m := mm) (r := r) (S := (mm.slice r hr).view.set) (Finset.Subset.refl _)) $$ H
  iintro H
  have hf' : (mm.access r).read (Elt F) f = v := hf
  rw [hf']
  iapply Hk
  iexists f
  isplitr
  · ipureintro; exact hf
  · iexact H

/-- Storing to the whole of an owned slice leaves it at what was stored. -/
theorem wp_store_slice {α : Type} {Q : α → sProp 𝕄} {w : r.shape.Idx → Elt F e} {hx : (mm.access r).Stores Finset.univ}
    {hm : (Finset.univ : Finset r.shape.Idx) = Finset.univ ∨ ∀ a, r.stride a = 1}
    {k : PUnit → Prog (TpuEff nD τ sig (Elt F) Λ₀ .tc) α} {v : r.shape.Idx → Elt F e} :
    (owns (c : Thread nD τ) (mm.slice r hr) fullShare v : sProp 𝕄)
      ⊢ iprop((owns (c : Thread nD τ) (mm.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store mm r w Finset.univ hx hm) k) Q) := by
  unfold owns
  iintro ⟨%f, %hf, H⟩ Hk
  iapply (wp_store 𝒱₀ (c : Thread nD τ) none Set.univ (m := mm) (r := r) (Mk := Finset.univ) (S := (mm.slice r hr).view.set) (Finset.Subset.refl _)) $$ H
  iintro H
  iapply Hk
  iexists _
  isplitr
  rotate_left
  · iexact H
  · ipureintro; exact View.read_write_univ _ _

end Slices

/-! ## Slots seen flat, as the transfers see them -/

omit [FloatOps F] in
/-- Copying one slot to another through their flat views copies the contents. -/
theorem read_write_flat {s s' : Shape} {e : EltTy} {v v' : View sig .tc .vmem s e} (h : s'.numel = s.numel)
    (fd : v'.ty.Contents (Elt F)) (fs : v.ty.Contents (Elt F)) :
    v'.read (Elt F) ((v'.reshape s' h).write (Elt F) fd ((v.reshape s' h).read (Elt F) fs) Finset.univ) = v.read (Elt F) fs := by
  have h1 := View.read_write_univ (Val := Elt F) (v := v'.reshape s' h) fd ((v.reshape s' h).read (Elt F) fs)
  funext x
  have h2 := congrFun h1 ((Shape.reshapeEquiv h).symm x)
  have h3 : ∀ (u : View sig .tc .vmem s e) (f : u.ty.Contents (Elt F)), (u.reshape s' h).read (Elt F) f ((Shape.reshapeEquiv h).symm x) = u.read (Elt F) f x :=
    fun u f => by
      show u.read (Elt F) f (Shape.reshapeEquiv h ((Shape.reshapeEquiv h).symm x)) = _
      rw [Equiv.apply_symm_apply]
  rw [h3] at h2
  exact h2.trans (h3 v fs)

theorem sFlat_set (kh : KH) : (sFlat kh).view.set = (sSlot kh).view.set := View.set_reshape _ _
theorem rFlat_set (kh : KH) : (rFlat kh).view.set = (rSlot kh).view.set := View.set_reshape _ _

/-! ## What a device holds for a step and chunk -/

section Status
variable (K : Dev nD × CI → ℕ) (c : Dev nD) (kh : KH)

/-- Every cell's invariant, and that every cell reached its round. -/
def records : sProp 𝕄 :=
  iprop((bigSep Finset.univ fun ci : Dev nD × CI => cellInv ER (sched m ρ) (K ci) (cell ci.1 ci.2))
    ∗ bigSep Finset.univ fun ci : Dev nD × CI => reached ER (cell ci.1 ci.2) 0)

instance records_persistent : BI.Persistent (records m ρ K) := by unfold records; infer_instance

theorem inv_of (i : CI) : records m ρ K ⊢ cellInv ER (sched m ρ) (K (c, i)) (cell c i) := by
  unfold records
  iintro ⟨HI, -⟩
  iapply (show (bigSep Finset.univ fun ci : Dev nD × CI => (cellInv ER (sched m ρ) (K ci) (cell ci.1 ci.2) : sProp 𝕄)) ⊢ cellInv ER (sched m ρ) (K (c, i)) (cell c i)
    from bigSep_elim (Finset.mem_univ (c, i)))
  iexact HI
theorem reached_of (i : CI) : records m ρ K ⊢ reached ER (cell c i) 0 := by
  unfold records
  iintro ⟨-, HR⟩
  iapply (show (bigSep Finset.univ fun ci : Dev nD × CI => (reached ER (cell ci.1 ci.2) 0 : sProp 𝕄)) ⊢ reached ER (cell c i) 0
    from bigSep_elim (Finset.mem_univ (c, i)))
  iexact HR

/-- Where it is in its two cells, and the credits with which it will wait for the landing. -/
def atStart : sProp 𝕄 :=
  iprop(atPos ER (cell c (.inr (.inl kh))) 0 ∅ 0 ∗ atPos ER (cell c (.inr (.inr kh))) 0 ∅ 0 ∗ cred (tallyAt (recvCell c kh) () N))
/-- The tokens of the duties its transfer pays. -/
def sendToks : sProp 𝕄 :=
  iprop(dutyTok ER (cell c (.inr (.inl kh))) 0 0 ∗ dutyTok ER (cell (peer kh.1.val c) (.inr (.inr kh))) 0 0)
/-- Before filling the send slot. -/
def ready : sProp 𝕄 :=
  iprop((∃ v, owns (c : Thread nD τ) (sSlot kh) fullShare v) ∗ freeSlot (peer kh.1.val c) kh ∗ sendToks c kh ∗ atStart c kh)
/-- After sending. -/
def flying : sProp 𝕄 := iprop(cred (tallyAt (sendCell c kh) () N) ∗ atStart c kh)
/-- After both waits. -/
def closed : sProp 𝕄 :=
  iprop(sentSlot m ρ c kh ∗ landedSlot m ρ c kh ∗ semVal (sendCell c kh) 0 ∗ semVal (recvCell c kh) 0)
/-- What it owes, at some record of past waits. -/
def owing (l : List KH) : sProp 𝕄 := iprop(∃ W, owes (c : Thread nD τ) (debt c l) W)

end Status

section Steps
variable (K : Dev nD × CI → ℕ) (c : Dev nD) (kh : KH)

/-- The send of a filled slot. -/
theorem step_send {α : Type} {Q : α → sProp 𝕄} (l : List KH) (n : Dev nD) (hn : n = peer kh.1.val c)
    {hsc : (rFlat kh : Memref sig (Dev.tc n : Thread nD τ).2.kind .vmem S128x256 .bf16).view.ref.isScScratch = false}
    {hsrc : (sFlat kh).view.WordExact} {hdst : (rFlat kh).view.WordExact}
    {hsem : DmaTarget.Typed .vmem (.dma (recvS kh)) (.remote (Dev.tc n : Thread nD τ) (rFlat kh) (.dma (sendS kh)) hsc)}
    {k : PUnit → Prog (TpuEff nD τ sig (Elt F) Λ₀ .tc) α} :
    iprop(records m ρ K ∗ sentSlot m ρ c kh ∗ freeSlot (peer kh.1.val c) kh ∗ sendToks c kh ∗ owing c (kh :: l))
      ⊢ iprop(((cred (tallyAt (sendCell c kh) () N) ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sFlat kh) (.remote (Dev.tc n : Thread nD τ) (rFlat kh) (.dma (sendS kh)) hsc) (.dma (recvS kh)) hsrc hdst hsem) k) Q) := by
  subst hn
  unfold sentSlot freeSlot owns sendToks owing
  iintro ⟨#HK, ⟨%fs, %hfs, Hs⟩, ⟨%v, %fd, %hfd, Hd⟩, ⟨HtS, HtR⟩, ⟨%W, HO⟩⟩ Hk
  iapply (Rounds.wp_send_pointsTo 𝒱₀ ER (sched m ρ) (c : Thread nD τ) none (κ₁ := K (c, .inr (.inl kh))) (κ₂ := K (peer kh.1.val c, .inr (.inr kh)))
    (src := sFlat kh) (dst := rFlat kh) (sS := .dma (sendS kh)) (sem := .dma (recvS kh)) (c' := (peer kh.1.val c : Thread nD τ))
    (r₁ := 0) (r₂ := 0) (d₁ := 0) (d₂ := 0) (q := fullShare) (fs := fs) (fd := fd)
    (by rw [show (((c : Thread nD τ), SemLoc.dma (sendS kh)) : GSem nD τ sig) = cell c (.inr (.inl kh)) from rfl, duties_cell]; exact Finset.mem_singleton_self _)
    (by rw [show (((peer kh.1.val c : Thread nD τ), SemLoc.dma (recvS kh)) : GSem nD τ sig) = cell (peer kh.1.val c) (.inr (.inr kh)) from rfl, duties_cell]; exact Finset.mem_singleton_self _)
    () () N rfl (amount_cell m ρ c (.inr (.inl kh)) 0) (amount_cell m ρ (peer kh.1.val c) (.inr (.inr kh)) 0) (debt c l) rfl (W := W)
    (by
      rw [show (((c : Thread nD τ), SemLoc.dma (sendS kh)) : GSem nD τ sig) = cell c (.inr (.inl kh)) from rfl, payload_cell]
      show _ ⊢ sentSlot m ρ c kh
      unfold sentSlot owns
      rw [sFlat_set]
      iintro H; iexists fs; isplitr
      · ipureintro; exact hfs
      · iexact H)
    (by
      rw [show (((peer kh.1.val c : Thread nD τ), SemLoc.dma (recvS kh)) : GSem nD τ sig) = cell (peer kh.1.val c) (.inr (.inr kh)) from rfl, payload_cell]
      show _ ⊢ landedSlot m ρ (peer kh.1.val c) kh
      unfold landedSlot owns
      rw [rFlat_set, peer_peer]
      iintro H; iexists _; isplitr
      rotate_left
      · iexact H
      · ipureintro; exact (read_write_flat _ fd fs).trans hfs)) $$ [Hs Hd HtS HtR HO]
  · isplitr; · iapply (inv_of m ρ K c (.inr (.inl kh))); iexact HK
    isplitr; · iapply (inv_of m ρ K (peer kh.1.val c) (.inr (.inr kh))); iexact HK
    isplitl [Hs]; · rw [sFlat_set]; iexact Hs
    isplitl [Hd]; · rw [rFlat_set]; iexact Hd
    isplitl [HO]; · iexact HO
    isplitl [HtS]; · iexact HtS
    isplitr; · iapply (reached_of m ρ K c (.inr (.inl kh))); iexact HK
    isplitl [HtR]; · iexact HtR
    iapply (reached_of m ρ K (peer kh.1.val c) (.inr (.inr kh))); iexact HK
  iintro ⟨Hc, HO⟩
  iapply Hk
  isplitl [Hc]; · iexact Hc
  iexists W; iexact HO

/-- Fill the send slot (after a load of it that nothing uses) and send it. -/
theorem step_put {α : Type} {Q : α → sProp 𝕄} (l : List KH) (n : Dev nD) (hn : n = peer kh.1.val c) (w : FVec F S1x1x128x256 .bf16) (hw : w = acc m ρ kh.1.val c kh.2)
    {hl : (sM : Memref sig .tc .vmem S3x4x128x256 .bf16).view.LoadsAt (slotR kh)}
    {hx : ((sM : Memref sig .tc .vmem S3x4x128x256 .bf16).access (slotR kh)).Stores Finset.univ}
    {hm : (Finset.univ : Finset (slotR kh).shape.Idx) = Finset.univ ∨ ∀ a, (slotR kh).stride a = 1}
    {hsc : (rFlat kh : Memref sig (Dev.tc n : Thread nD τ).2.kind .vmem S128x256 .bf16).view.ref.isScScratch = false}
    {hsrc : (sFlat kh).view.WordExact} {hdst : (rFlat kh).view.WordExact}
    {hsem : DmaTarget.Typed .vmem (.dma (recvS kh)) (.remote (Dev.tc n : Thread nD τ) (rFlat kh) (.dma (sendS kh)) hsc)}
    {k : PUnit → Prog (TpuEff nD τ sig (Elt F) Λ₀ .tc) α} :
    iprop(records m ρ K ∗ ready c kh ∗ owing c (kh :: l))
      ⊢ iprop(((flying c kh ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (slotR kh) hl) fun _ => .op (.store sM (slotR kh) w Finset.univ hx hm) fun _ =>
                .op (.enqueueDma (sFlat kh) (.remote (Dev.tc n : Thread nD τ) (rFlat kh) (.dma (sendS kh)) hsc) (.dma (recvS kh)) hsrc hdst hsem) k) Q) := by
  subst hw
  unfold ready
  iintro ⟨#HK, ⟨⟨%v, Hs⟩, Hf, Ht, Ha⟩, HO⟩ Hk
  iapply (wp_load_slice c (mm := sM) (r := slotR kh) (hr := fun _ => rfl)) $$ Hs
  iintro Hs
  iapply (wp_store_slice c (mm := sM) (r := slotR kh) (hr := fun _ => rfl)) $$ Hs
  iintro Hs
  iapply (step_send m ρ K c kh l n hn) $$ [Hs Hf Ht HO]
  · isplitr; · iexact HK
    isplitl [Hs]; · unfold sentSlot; iexact Hs
    isplitl [Hf]; · iexact Hf
    isplitl [Ht]; · iexact Ht
    iexact HO
  iintro ⟨Hc, HO⟩
  iapply Hk
  unfold flying
  isplitl [Hc Ha]
  · isplitl [Hc] <;> iassumption
  iexact HO

/-- A wait for the one round of a transfer cell: its payload comes, and the cell closes. -/
theorem step_wait {α : Type} {Q : α → sProp 𝕄} (x : KX) (l : List KH) (b : ℕ) (hb : lv (cell c (.inr x)) () ≤ b) (hlt : ∀ kh' ∈ l, b < 2 + kh'.1.val)
    {w : TpuEff nD τ sig (Elt F) Λ₀ .tc PUnit} {n : ℕ} (hn : n = N)
    (hw : ∀ P : PUnit → sProp 𝕄, wpE (defs₀ (F := F)) 𝒱₀ (c : Thread nD τ) none Set.univ w P = waitSpec (c : Thread nD τ) Set.univ (osem x) n P)
    {k : PUnit → Prog (TpuEff nD τ sig (Elt F) Λ₀ .tc) α} :
    iprop(records m ρ K ∗ levAts L lv ∗ cred (tallyAt (cell c (.inr x)) () N) ∗ atPos ER (cell c (.inr x)) 0 ∅ 0 ∗ owing c l)
      ⊢ iprop(((payAt m ρ c (.inr x) 0 ∗ semVal (cell c (.inr x)) 0 ∗ owing c l)
              -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  unfold owing
  iintro ⟨#HK, #Hlev, Hc, Ha, ⟨%W, HO⟩⟩ Hk
  iapply (Rounds.wp_wait_rest_token 𝒱₀ ER (sched m ρ) (c : Thread nD τ) none (κ := K (c, .inr x)) (sm := osem x)
      hw (Set.mem_univ _) () (O := debt c l) (W := W) (R := 0) (m := 0) (T := ∅)
      ((Nat.zero_add _).trans (expect_xfer m ρ c x).symm)) $$ [Hc HO Ha]
  · isplitr; · iapply (inv_of m ρ K c (.inr x)); iexact HK
    isplitl [Hc]; · iexact Hc
    isplitl [HO]; · iexact HO
    isplitr
    · iapply (mayWait_debt c (osem x) b hb l hlt); iexact Hlev
    iexact Ha
  iintro ⟨HO, Ha, -, Hpay⟩
  ihave Hp := (Entails.of_eq (rest_xfer m ρ c x)) $$ Hpay
  imod (Rounds.cell_close ER (sched m ρ) (Set.mem_univ (K (c, .inr x))) (fun h => h) (R := 0 + 1) (duties_later m ρ (cell c (.inr x)))) $$ [Ha] with Hz
  · isplitr; · iapply (inv_of m ρ K c (.inr x)); iexact HK
    iexact Ha
  iapply Hk
  isplitl [Hp]; · iexact Hp
  isplitl [Hz]; · iexact Hz
  iexists _; iexact HO

/-- Wait for the transfer out, then for the one in, and read both slots. -/
theorem step_get {α : Type} {Q : α → sProp 𝕄} (l : List KH) (hlt : ∀ kh' ∈ l, kh.1.val < kh'.1.val)
    {h1 : (rFlat kh).view.WordExact} {h2 : (sFlat kh).view.WordExact} {h3 : (sFlat kh).view.WordExact} {h4 : (rFlat kh).view.WordExact}
    {hl : (sM : Memref sig .tc .vmem S3x4x128x256 .bf16).view.LoadsAt (slotR kh)}
    {hl' : (rM : Memref sig .tc .vmem S3x4x128x256 .bf16).view.LoadsAt (slotR kh)}
    {k : FVec F S1x1x128x256 .bf16 → FVec F S1x1x128x256 .bf16 → Prog (TpuEff nD τ sig (Elt F) Λ₀ .tc) α} :
    iprop(records m ρ K ∗ levAts L lv ∗ flying c kh ∗ owing c l)
      ⊢ iprop(((closed m ρ c kh ∗ owing c l) -∗ wp frame (wpE (defs₀ (F := F)) 𝒱₀ (c : Thread nD τ) none) Set.univ
                (k (acc m ρ kh.1.val c kh.2) (acc m ρ kh.1.val (peer kh.1.val c) kh.2)) Q)
          -∗ wp frame (wpE (defs₀ (F := F)) 𝒱₀ (c : Thread nD τ) none) Set.univ
              (.op (.waitDma2 (sendS kh) (rFlat kh) (sFlat kh) h1 h2) fun _ => .op (.waitDma2 (recvS kh) (sFlat kh) (rFlat kh) h3 h4) fun _ =>
                .op (.load sM (slotR kh) hl) fun v => .op (.load rM (slotR kh) hl') fun v' => k v v') Q) := by
  unfold flying atStart closed
  iintro ⟨#HK, #Hlev, ⟨HcS, HaS, HaR, HcR⟩, HO⟩ Hk
  iapply (step_wait m ρ K c (.inl kh) l 0 (lv_cell c (.inr (.inl kh))).le (fun kh' _ => Nat.lt_of_lt_of_le Nat.two_pos (Nat.le_add_right _ _))
    (credit_send kh) (fun P => wpE_waitDma2_eq 𝒱₀ (c : Thread nD τ) none Set.univ P)) $$ [HcS HaS HO]
  · isplitr; · iexact HK
    isplitr; · iexact Hlev
    isplitl [HcS]; · iexact HcS
    isplitl [HaS]; · iexact HaS
    iexact HO
  iintro ⟨Hs, HzS, HO⟩
  iapply (step_wait m ρ K c (.inr kh) l (2 + kh.1.val) (lv_cell c (.inr (.inr kh))).le (fun kh' h => Nat.add_lt_add_left (hlt kh' h) 2)
    (credit_recv kh) (fun P => wpE_waitDma2_eq 𝒱₀ (c : Thread nD τ) none Set.univ P)) $$ [HcR HaR HO]
  · isplitr; · iexact HK
    isplitr; · iexact Hlev
    isplitl [HcR]; · iexact HcR
    isplitl [HaR]; · iexact HaR
    iexact HO
  iintro ⟨Hr, HzR, HO⟩
  unfold payAt sentSlot landedSlot
  iapply (wp_load_slice c (mm := sM) (r := slotR kh) (hr := fun _ => rfl)) $$ Hs
  iintro Hs
  iapply (wp_load_slice c (mm := rM) (r := slotR kh) (hr := fun _ => rfl)) $$ Hr
  iintro Hr
  iapply Hk
  isplitl [Hs Hr HzS HzR]
  · isplitl [Hs]; · iexact Hs
    isplitl [Hr]; · iexact Hr
    isplitl [HzS] <;> iassumption
  iexact HO

end Steps

end Cert.AllReduce

end
-- ==== Proof.Body.lean ====
/-
# The body on one device

The buffers are cut into their slots and row chunks, the partners are signalled and waited for, and from there the body
is a pump: a send slot is filled and sent (`pump_put`), a transfer is waited for and read (`pump_get`), a chunk of the
result is stored (`pump_out`). The pump's state is five lists of steps and chunks, taken from the front and added to at
the back.
-/
module

public import proofs.«01_k».proof.Proof.Steps
public import proofs.«01_k».proof.Proof.Gen.KernelIdeal.Points
public import Idealize.ShloMosaic.Lib.Pipeline.BigSepL

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots of a scratch buffer, the chunks of the result -/

theorem slot_disjoint (a b : KH) (h : a ≠ b) : Disjoint (slotR a).set (slotR b).set := by
  by_cases h1 : a.1 = b.1
  · have h2 : a.2.val ≠ b.2.val := fun h2 => h (Prod.ext h1 (Fin.ext h2))
    refine Rect.unit_disjoint (1 : Fin 4) ?_
    show a.2.val + 1 ≤ b.2.val ∨ b.2.val + 1 ≤ a.2.val
    omega
  · have h2 : a.1.val ≠ b.1.val := fun h2 => h1 (Fin.ext h2)
    refine Rect.unit_disjoint (0 : Fin 4) ?_
    show a.1.val + 1 ≤ b.1.val ∨ b.1.val + 1 ≤ a.1.val
    omega

theorem slot_cover : (Finset.univ : Finset KH).biUnion (fun kh => (slotR kh).set) = Finset.univ :=
  Finset.eq_univ_of_forall fun i => Finset.mem_biUnion.mpr ⟨(i (0 : Fin 4), i (1 : Fin 4)), Finset.mem_univ _, Rect.mem_set_unit.mpr fun a => by
    have h2 : (i (2 : Fin 4)).val < 128 := (i (2 : Fin 4)).isLt
    have h3 : (i (3 : Fin 4)).val < 256 := (i (3 : Fin 4)).isLt
    match a with
    | ⟨0, _⟩ => exact ⟨Nat.le_refl _, Nat.lt_succ_self _⟩
    | ⟨1, _⟩ => exact ⟨Nat.le_refl _, Nat.lt_succ_self _⟩
    | ⟨2, _⟩ => exact ⟨Nat.zero_le _, by show (i (2 : Fin 4)).val < 0 + 128; omega⟩
    | ⟨3, _⟩ => exact ⟨Nat.zero_le _, by show (i (3 : Fin 4)).val < 0 + 256; omega⟩⟩

theorem row_disjoint (a b : Fin 4) (h : a ≠ b) : Disjoint (rowR a).set (rowR b).set := by
  have h2 : a.val ≠ b.val := fun h2 => h (Fin.ext h2)
  refine Rect.unit_disjoint (0 : Fin 2) ?_
  show 128 * a.val + 128 ≤ 128 * b.val ∨ 128 * b.val + 128 ≤ 128 * a.val
  omega

/-- The chunk a row lies in, and where in it. -/
def chunkOf (i : S512x256.Idx) : Fin 4 := ⟨(i (0 : Fin 2)).val / 128, by have : (i (0 : Fin 2)).val < 512 := (i (0 : Fin 2)).isLt; omega⟩
def inChunk (i : S512x256.Idx) : S128x256.Idx := fun
  | ⟨0, _⟩ => ⟨(i (0 : Fin 2)).val % 128, Nat.mod_lt _ (by decide)⟩
  | ⟨1, _⟩ => i (1 : Fin 2)

theorem chunk_emb (i : S512x256.Idx) : (rowR (chunkOf i)).emb (inChunk i) = i := by
  funext a
  apply Fin.ext
  match a with
  | ⟨0, _⟩ =>
    show 128 * ((i (0 : Fin 2)).val / 128) + 1 * ((i (0 : Fin 2)).val % 128) = (i (0 : Fin 2)).val
    omega
  | ⟨1, _⟩ =>
    show 0 + 1 * (i (1 : Fin 2)).val = (i (1 : Fin 2)).val
    omega

theorem row_cover : (Finset.univ : Finset (Fin 4)).biUnion (fun h => (rowR h).set) = Finset.univ :=
  Finset.eq_univ_of_forall fun i => Finset.mem_biUnion.mpr ⟨chunkOf i, Finset.mem_univ _, by
    have h := Finset.mem_map_of_mem (rowR (chunkOf i)).emb (Finset.mem_univ (inChunk i))
    rw [Rect.map_emb_univ, chunk_emb] at h
    exact h⟩

theorem emb_chunk (h : Fin 4) (j : S128x256.Idx) : chunkOf ((rowR h).emb j) = h ∧ inChunk ((rowR h).emb j) = j := by
  have hj : (j (0 : Fin 2)).val < 128 := (j (0 : Fin 2)).isLt
  have e0 : ((rowR h).emb j (0 : Fin 2)).val = 128 * h.val + 1 * (j (0 : Fin 2)).val := rfl
  have e1 : ((rowR h).emb j (1 : Fin 2)).val = 0 + 1 * (j (1 : Fin 2)).val := rfl
  constructor
  · apply Fin.ext
    show ((rowR h).emb j (0 : Fin 2)).val / 128 = h.val
    omega
  · funext a
    apply Fin.ext
    match a with
    | ⟨0, _⟩ =>
      show ((rowR h).emb j (0 : Fin 2)).val % 128 = (j (0 : Fin 2)).val
      omega
    | ⟨1, _⟩ =>
      show ((rowR h).emb j (1 : Fin 2)).val = (j (1 : Fin 2)).val
      omega

/-- The kernel's result on device `c`, chunk by chunk. -/
def outAt (c : Dev nD) : (cc0_stg1_0 : Ref sig .tc).ty.Contents (Elt F) := fun i => outRow m ρ c (chunkOf i) (inChunk i)

theorem outAt_chunk (c : Dev nD) (h : Fin 4) : (fun j => outAt m ρ c ((rowR h).emb j)) = outRow m ρ c h :=
  funext fun j => by show outRow m ρ c (chunkOf _) (inChunk _) = _; rw [(emb_chunk h j).1, (emb_chunk h j).2]

/-- A send slot, and a chunk of the result buffer, at some contents; that chunk at the result. -/
def emptySlot (c : Dev nD) (kh : KH) : sProp 𝕄 := iprop(∃ v, owns (c : Thread nD τ) (sSlot kh) fullShare v)
def blank (c : Dev nD) (h : Fin 4) : sProp 𝕄 := iprop(∃ v, owns (c : Thread nD τ) (oRows h) fullShare v)
def filled (c : Dev nD) (h : Fin 4) : sProp 𝕄 := owns (c : Thread nD τ) (oRows h) fullShare (outRow m ρ c h)

theorem some_contents (c : Dev nD) {sp : Space} {s : Shape} {e : EltTy} (mm : Memref sig .tc sp s e) (X : s.Idx → Elt F e) :
    (owns (c : Thread nD τ) mm fullShare X : sProp 𝕄) ⊢ iprop(∃ v, owns (c : Thread nD τ) mm fullShare v) := by
  iintro H; iexists X; iexact H

/-- A whole buffer at some contents, by pieces at some contents. -/
theorem pieces (c : Dev nD) (b : Ref sig .tc) {T : Type} [Fintype T] [DecidableEq T] (r : T → Rect b.ty.shape) (hr : ∀ t a, (r t).stride a = 1)
    (hd : ∀ t t', t ≠ t' → Disjoint (r t).set (r t').set) (hcov : (Finset.univ : Finset T).biUnion (fun t => (r t).set) = Finset.univ) :
    (iprop(∃ f : Buf (Elt F) ((c : Thread nD τ).loc b), ((c : Thread nD τ).loc b) ↦{fullShare} f) : sProp 𝕄)
      ⊢ bigSep Finset.univ fun t => iprop(∃ v, owns (c : Thread nD τ) ((Memref.whole b).slice (r t) (hr t)) fullShare v) := by
  iintro ⟨%f, H⟩
  iapply ((Entails.of_eq (owns_whole (c : Thread nD τ) b fullShare f).symm).trans ((owns_rects (c : Thread nD τ) (Memref.whole b) fullShare r hr hd hcov f).trans
    (bigSep_mono fun t _ => some_contents c ((Memref.whole b).slice (r t) (hr t)) fun j => f ((r t).emb j))))
  iexact H

/-- And a family of pieces at some contents, the whole buffer at some contents. -/
theorem whole_of_pieces (c : Dev nD) (b : Ref sig .tc) {T : Type} [Fintype T] [DecidableEq T] (r : T → Rect b.ty.shape) (hr : ∀ t a, (r t).stride a = 1)
    (hd : ∀ t t', t ≠ t' → Disjoint (r t).set (r t').set) (hcov : (Finset.univ : Finset T).biUnion (fun t => (r t).set) = Finset.univ)
    (X : b.ty.Contents (Elt F)) :
    (bigSep Finset.univ fun t => owns (c : Thread nD τ) ((Memref.whole b).slice (r t) (hr t)) fullShare (fun j => X ((r t).emb j)) : sProp 𝕄)
      ⊢ iprop(((c : Thread nD τ).loc b) ↦{fullShare} X) :=
  (owns_of_rects (c : Thread nD τ) (Memref.whole b) fullShare r hr hd hcov X).trans (Entails.of_eq (owns_whole (c : Thread nD τ) b fullShare X))

/-! ## The pump -/

section Pump
variable (K : Dev nD × CI → ℕ) (c : Dev nD)

/-- The body's state after the barrier: slots to fill, transfers under way, transfers done, chunks of the result to
    write, chunks written. -/
def pump (R T D : List KH) (B W : List (Fin 4)) : sProp 𝕄 :=
  iprop(records m ρ K ∗ levAts L lv ∗ bigSepL R (ready c) ∗ bigSepL T (flying c) ∗ bigSepL D (closed m ρ c) ∗ owing c R
    ∗ bigSepL B (blank c) ∗ bigSepL W (filled m ρ c))

theorem pump_put {α : Type} {Q : α → sProp 𝕄} (kh : KH) (R T D : List KH) (B W : List (Fin 4)) (n : Dev nD) (hn : n = peer kh.1.val c)
    (w : FVec F S1x1x128x256 .bf16) (hw : w = acc m ρ kh.1.val c kh.2)
    {hl : (sM : Memref sig .tc .vmem S3x4x128x256 .bf16).view.LoadsAt (slotR kh)}
    {hx : ((sM : Memref sig .tc .vmem S3x4x128x256 .bf16).access (slotR kh)).Stores Finset.univ}
    {hm : (Finset.univ : Finset (slotR kh).shape.Idx) = Finset.univ ∨ ∀ a, (slotR kh).stride a = 1}
    {hsc : (rFlat kh : Memref sig (Dev.tc n : Thread nD τ).2.kind .vmem S128x256 .bf16).view.ref.isScScratch = false}
    {hsrc : (sFlat kh).view.WordExact} {hdst : (rFlat kh).view.WordExact}
    {hsem : DmaTarget.Typed .vmem (.dma (recvS kh)) (.remote (Dev.tc n : Thread nD τ) (rFlat kh) (.dma (sendS kh)) hsc)}
    {k : PUnit → Prog (TpuEff nD τ sig (Elt F) Λ₀ .tc) α} :
    pump m ρ K c (kh :: R) T D B W
      ⊢ iprop((pump m ρ K c R (T ++ [kh]) D B W -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (slotR kh) hl) fun _ => .op (.store sM (slotR kh) w Finset.univ hx hm) fun _ =>
                .op (.enqueueDma (sFlat kh) (.remote (Dev.tc n : Thread nD τ) (rFlat kh) (.dma (sendS kh)) hsc) (.dma (recvS kh)) hsrc hdst hsem) k) Q) := by
  unfold pump
  rw [bigSepL_cons', bigSepL_append, bigSepL_singleton]
  iintro ⟨#HK, #Hlev, ⟨Hkh, HR⟩, HT, HD, HO, HB, HW⟩ Hk
  iapply (step_put m ρ K c kh R n hn w hw) $$ [Hkh HO]
  · isplitr; · iexact HK
    isplitl [Hkh] <;> iassumption
  iintro ⟨Hf, HO⟩
  iapply Hk
  isplitr; · iexact HK
  isplitr; · iexact Hlev
  isplitl [HR]; · iexact HR
  isplitl [HT Hf]; · isplitl [HT] <;> iassumption
  isplitl [HD]; · iexact HD
  isplitl [HO]; · iexact HO
  isplitl [HB] <;> iassumption

theorem pump_get {α : Type} {Q : α → sProp 𝕄} (kh : KH) (R T D : List KH) (B W : List (Fin 4)) (hlt : ∀ kh' ∈ R, kh.1.val < kh'.1.val)
    {h1 : (rFlat kh).view.WordExact} {h2 : (sFlat kh).view.WordExact} {h3 : (sFlat kh).view.WordExact} {h4 : (rFlat kh).view.WordExact}
    {hl : (sM : Memref sig .tc .vmem S3x4x128x256 .bf16).view.LoadsAt (slotR kh)}
    {hl' : (rM : Memref sig .tc .vmem S3x4x128x256 .bf16).view.LoadsAt (slotR kh)}
    {k : FVec F S1x1x128x256 .bf16 → FVec F S1x1x128x256 .bf16 → Prog (TpuEff nD τ sig (Elt F) Λ₀ .tc) α} :
    pump m ρ K c R (kh :: T) D B W
      ⊢ iprop((pump m ρ K c R T (D ++ [kh]) B W -∗ wp frame (wpE (defs₀ (F := F)) 𝒱₀ (c : Thread nD τ) none) Set.univ
                (k (acc m ρ kh.1.val c kh.2) (acc m ρ kh.1.val (peer kh.1.val c) kh.2)) Q)
          -∗ wp frame (wpE (defs₀ (F := F)) 𝒱₀ (c : Thread nD τ) none) Set.univ
              (.op (.waitDma2 (sendS kh) (rFlat kh) (sFlat kh) h1 h2) fun _ => .op (.waitDma2 (recvS kh) (sFlat kh) (rFlat kh) h3 h4) fun _ =>
                .op (.load sM (slotR kh) hl) fun v => .op (.load rM (slotR kh) hl') fun v' => k v v') Q) := by
  unfold pump
  rw [bigSepL_cons', bigSepL_append, bigSepL_singleton]
  iintro ⟨#HK, #Hlev, HR, ⟨Hkh, HT⟩, HD, HO, HB, HW⟩ Hk
  iapply (step_get m ρ K c kh R hlt) $$ [Hkh HO]
  · isplitr; · iexact HK
    isplitr; · iexact Hlev
    isplitl [Hkh] <;> iassumption
  iintro ⟨Hf, HO⟩
  iapply Hk
  isplitr; · iexact HK
  isplitr; · iexact Hlev
  isplitl [HR]; · iexact HR
  isplitl [HT]; · iexact HT
  isplitl [HD Hf]; · isplitl [HD] <;> iassumption
  isplitl [HO]; · iexact HO
  isplitl [HB] <;> iassumption

theorem pump_out {α : Type} {Q : α → sProp 𝕄} (h : Fin 4) (R T D : List KH) (B W : List (Fin 4))
    (w : FVec F S128x256 .f32) (hw : w = outRow m ρ c h)
    {hl : (oM : Memref sig .tc .vmem S512x256 .f32).view.LoadsAt (rowR h)}
    {hx : ((oM : Memref sig .tc .vmem S512x256 .f32).access (rowR h)).Stores Finset.univ}
    {hm : (Finset.univ : Finset (rowR h).shape.Idx) = Finset.univ ∨ ∀ a, (rowR h).stride a = 1}
    {k : PUnit → Prog (TpuEff nD τ sig (Elt F) Λ₀ .tc) α} :
    pump m ρ K c R T D (h :: B) W
      ⊢ iprop((pump m ρ K c R T D B (W ++ [h]) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (rowR h) hl) fun _ => .op (.store oM (rowR h) w Finset.univ hx hm) k) Q) := by
  subst hw
  unfold pump
  rw [bigSepL_cons', bigSepL_append, bigSepL_singleton]
  unfold blank
  iintro ⟨HK, Hlev, HR, HT, HD, HO, ⟨⟨%v, Hh⟩, HB⟩, HW⟩ Hk
  iapply (wp_load_slice c (mm := oM) (r := rowR h) (hr := fun _ => rfl)) $$ Hh
  iintro Hh
  iapply (wp_store_slice c (mm := oM) (r := rowR h) (hr := fun _ => rfl)) $$ Hh
  iintro Hh
  iapply Hk
  isplitl [HK]; · iexact HK
  isplitl [Hlev]; · iexact Hlev
  isplitl [HR]; · iexact HR
  isplitl [HT]; · iexact HT
  isplitl [HD]; · iexact HD
  isplitl [HO]; · iexact HO
  isplitl [HB]; · iexact HB
  isplitl [HW]; · iexact HW
  unfold filled; iexact Hh

end Pump

/-! ## Before and after the body -/

/-- The tokens of a device's signals: its duty on each partner's barrier cell. -/
def barToks (c : Dev nD) : sProp 𝕄 := bigSep Finset.univ fun k : Fin 3 => dutyTok ER (cell (peer k.val c) (.inl ())) 0 k
/-- A device's places in its own cells. -/
def places (c : Dev nD) : sProp 𝕄 := bigSep Finset.univ fun i : CI => atPos ER (cell c i) 0 ∅ 0
/-- A device's credits: its barrier's three units and each landing's. -/
def credits (c : Dev nD) : sProp 𝕄 :=
  iprop(cred (tallyAt (barCell c) () 3) ∗ bigSep Finset.univ fun kh : KH => cred (tallyAt (recvCell c kh) () N))
/-- What stays with a device: its places, and the tokens of the duties it pays. -/
def kit (c : Dev nD) : sProp 𝕄 := iprop(places c ∗ barToks c ∗ bigSep Finset.univ (sendToks (F := F) c))

/-- What the body starts from. -/
def start (c : Dev nD) : sProp 𝕄 := iprop((∃ K, records m ρ K ∗ kit c) ∗ credits c ∗ levAts L lv)

/-- The two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: every slot back, every cell of the device at zero. -/
def Φ₁ (c : Dev nD) : sProp 𝕄 := iprop((bigSep Finset.univ fun kh : KH => closed m ρ c kh) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-! ## Cutting and joining -/

theorem order_univ : (Finset.univ : Finset KH) = order.toFinset := by decide

/-- From the start to what the signals need: the receive slots by step, and everything else of the pump's first state
    but the partners' receive slots. -/
def waiting (c : Dev nD) (kh : KH) : sProp 𝕄 := iprop(emptySlot c kh ∗ sendToks c kh ∗ atStart c kh)

theorem slots_cut (c : Dev nD) : scratch (F := F) c
    ⊢ iprop((bigSep Finset.univ fun kh : KH => emptySlot c kh) ∗ bigSep Finset.univ fun k : Fin 3 => bigSep Finset.univ fun h : Fin 4 => freeSlot c (k, h)) := by
  unfold scratch
  iintro ⟨Hs, Hr⟩
  isplitl [Hs]
  · iapply (pieces c cc0_scratch0 slotR (fun _ _ => rfl) slot_disjoint slot_cover); iexact Hs
  · iapply ((pieces (F := F) c cc0_scratch1 slotR (fun _ _ => rfl) slot_disjoint slot_cover).trans (Entails.of_eq (bigSep_univ_prod (freeSlot (F := F) c))))
    iexact Hr

theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

theorem starts_split (c : Dev nD) : iprop(places (F := F) c ∗ bigSep Finset.univ fun kh : KH => cred (tallyAt (recvCell c kh) () N))
    ⊢ iprop(atPos ER (cell c (.inl ())) 0 ∅ 0 ∗ bigSep Finset.univ (atStart (F := F) c)) := by
  unfold places atStart
  rw [bigSep_sum', bigSep_sum', bigSep_sep', bigSep_sep']
  rw [show (Finset.univ : Finset Unit) = {()} from rfl, bigSep_singleton]
  iintro ⟨⟨Hb, Hs, Hr⟩, Hc⟩
  isplitl [Hb]; · iexact Hb
  isplitl [Hs]; · iexact Hs
  isplitl [Hr] <;> iassumption

/-- With the partners' receive slots, the pump's first list. -/
theorem readies (c : Dev nD) : iprop((bigSep Finset.univ fun kh : KH => emptySlot c kh) ∗ (bigSep Finset.univ fun k : Fin 3 => barPay c k)
      ∗ bigSep Finset.univ (sendToks (F := F) c) ∗ bigSep Finset.univ (atStart (F := F) c))
    ⊢ bigSepL order (ready (F := F) c) := by
  rw [← bigSep_univ_eq_bigSepL order order_univ order_nodup]
  unfold ready barPay
  rw [bigSep_sep', bigSep_sep', bigSep_sep']
  rw [← bigSep_univ_prod (fun kh : KH => freeSlot (F := F) (peer kh.1.val c) kh)]
  exact .rfl

theorem blanks (c : Dev nD) (X : (cc0_stg1_0 : Ref sig .tc).ty.Contents (Elt F)) : stg c cc0_stg1_0 X ⊢ bigSepL [0, 1, 2, 3] (blank (F := F) c) := by
  rw [← bigSep_univ_eq_bigSepL [0, 1, 2, 3] (by decide) (by decide)]
  iintro ⟨%f, -, H⟩
  iapply (pieces c cc0_stg1_0 rowR (fun _ _ => rfl) row_disjoint row_cover)
  iexists f; iexact H

theorem results (c : Dev nD) : bigSepL [0, 1, 2, 3] (filled m ρ c) ⊢ stg c cc0_stg1_0 (outAt m ρ c) := by
  rw [← bigSep_univ_eq_bigSepL [0, 1, 2, 3] (by decide) (by decide)]
  have h : (bigSep Finset.univ fun h : Fin 4 => filled m ρ c h) ⊢ iprop(((c : Thread nD τ).loc cc0_stg1_0) ↦{fullShare} outAt m ρ c) := by
    refine (Entails.of_eq (bigSep_congr fun h _ => ?_)).trans (whole_of_pieces c cc0_stg1_0 rowR (fun _ _ => rfl) row_disjoint row_cover (outAt m ρ c))
    unfold filled; rw [← outAt_chunk]; rfl
  iintro H
  iexists (outAt m ρ c)
  isplitr; · ipureintro; rfl
  iapply h; iexact H

end Cert.AllReduce

end
-- ==== Proof.Sound.lean ====
/-
# The body is sound

The printed body run from its start to its end: three signals, the barrier's wait, and the pump.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

section Steps
variable (K : Dev nD × CI → ℕ)

/-- The signal to the partner of step `k`: it hands over the device's own receive slots of that step. -/
theorem step_signal {α : Type} {Q : α → sProp 𝕄} (k : Fin 3) (n : Dev nD) (hn : n = peer k.val c) (O : CellTallies nD τ sig Unit) (W : Waits sig Unit)
    {a : ℕ} (ha : a = 1) {cont : PUnit → Prog (TpuEff nD τ sig (Elt F) Λ₀ .tc) α} :
    iprop(records m ρ K ∗ dutyTok ER (cell (peer k.val c) (.inl ())) 0 k ∗ (bigSep Finset.univ fun h : Fin 4 => freeSlot c (k, h))
        ∗ owes (c : Thread nD τ) (O + tallyAt (barCell (peer k.val c)) () 1) W)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (n : Thread nD τ) barS a) cont) Q) := by
  subst hn ha
  iintro ⟨#HK, Ht, Hf, HO⟩ Hk
  iapply (Rounds.wp_signal 𝒱₀ ER (sched m ρ) (c : Thread nD τ) none (dst := (peer k.val c : Thread nD τ)) (κ := K (peer k.val c, .inl ()))
      (sem := barS) (r := 0) (d := k)
      (by rw [show (((peer k.val c : Thread nD τ), SemLoc.reg barS) : GSem nD τ sig) = cell (peer k.val c) (.inl ()) from rfl, duties_cell]; exact Finset.mem_univ _)
      (amount_cell m ρ (peer k.val c) (.inl ()) k) () O rfl) $$ [Ht Hf HO]
  · isplitr; · iapply (inv_of m ρ K (peer k.val c) (.inl ())); iexact HK
    isplitl [HO]; · iexact HO
    isplitl [Ht]; · iexact Ht
    isplitl [Hf]
    · rw [show (((peer k.val c : Thread nD τ), SemLoc.reg barS) : GSem nD τ sig) = cell (peer k.val c) (.inl ()) from rfl, payload_cell]
      rw [show payAt (F := F) m ρ (peer k.val c) (.inl ()) k = barPay (peer k.val c) k from rfl]
      unfold barPay; rw [peer_peer]; iexact Hf
    iapply (reached_of m ρ K (peer k.val c) (.inl ())); iexact HK
  iexact Hk

/-- The wait for the three signals: the partners' receive slots come, and the barrier cell closes. -/
theorem step_barrier {α : Type} {Q : α → sProp 𝕄} (W : Waits sig Unit) {a : ℕ} (ha : a = 3)
    {cont : PUnit → Prog (TpuEff nD τ sig (Elt F) Λ₀ .tc) α} :
    iprop(records m ρ K ∗ levAts L lv ∗ cred (tallyAt (barCell c) () 3) ∗ atPos ER (cell c (.inl ())) 0 ∅ 0
        ∗ owes (c : Thread nD τ) (debt c order) W)
      ⊢ iprop((((bigSep Finset.univ fun k : Fin 3 => barPay c k) ∗ semVal (barCell c) 0 ∗ owing c order)
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS a) cont) Q) := by
  subst ha
  iintro ⟨#HK, #Hlev, Hc, Ha, HO⟩ Hk
  iapply (Rounds.wp_wait_rest_token 𝒱₀ ER (sched m ρ) (c : Thread nD τ) none (κ := K (c, .inl ())) (sm := .reg barS)
      (wpE_semWait_eq 𝒱₀ (c : Thread nD τ) none Set.univ) (Set.mem_univ _) () (O := debt c order) (W := W) (R := 0) (m := 0) (T := ∅)
      ((Nat.zero_add _).trans (expect_bar m ρ c).symm)) $$ [Hc HO Ha]
  · isplitr; · iapply (inv_of m ρ K c (.inl ())); iexact HK
    isplitl [Hc]; · iexact Hc
    isplitl [HO]; · iexact HO
    isplitr
    · iapply (mayWait_debt c (.reg barS) 1 (lv_cell c (.inl ())).le order (fun kh _ => Nat.lt_of_lt_of_le (by decide) (Nat.le_add_right 2 _)))
      iexact Hlev
    iexact Ha
  iintro ⟨HO, Ha, -, Hpay⟩
  ihave Hp := (Entails.of_eq (rest_bar m ρ c)) $$ Hpay
  imod (Rounds.cell_close ER (sched m ρ) (Set.mem_univ (K (c, .inl ()))) (fun h => h) (R := 0 + 1) (duties_later m ρ (cell c (.inl ())))) $$ [Ha] with Hz
  · isplitr; · iapply (inv_of m ρ K c (.inl ())); iexact HK
    iexact Ha
  iapply Hk
  isplitl [Hp]; · iexact Hp
  isplitl [Hz]; · iexact Hz
  unfold owing; iexists _; iexact HO

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The rows' chunks in the order they are written. -/
def rows : List (Fin 4) := [0, 1, 2, 3]

/-- The pump after `i` sends, `j` landings and `o` chunks of the result, all in program order. -/
def stage (i j o : ℕ) : sProp 𝕄 :=
  pump m ρ K c (order.drop i) ((order.take i).drop j) (order.take j) (rows.drop o) (rows.take o)

theorem stage_put {α : Type} {Q : α → sProp 𝕄} (i j o : ℕ) (kh : KH) (hi : order.drop i = kh :: order.drop (i + 1))
    (ht : (order.take (i + 1)).drop j = (order.take i).drop j ++ [kh]) (n : Dev nD) (hn : n = peer kh.1.val c)
    (w : FVec F S1x1x128x256 .bf16) (hw : w = acc m ρ kh.1.val c kh.2)
    {hl : (sM : Memref sig .tc .vmem S3x4x128x256 .bf16).view.LoadsAt (slotR kh)}
    {hx : ((sM : Memref sig .tc .vmem S3x4x128x256 .bf16).access (slotR kh)).Stores Finset.univ}
    {hm : (Finset.univ : Finset (slotR kh).shape.Idx) = Finset.univ ∨ ∀ a, (slotR kh).stride a = 1}
    {hsc : (rFlat kh : Memref sig (Dev.tc n : Thread nD τ).2.kind .vmem S128x256 .bf16).view.ref.isScScratch = false}
    {hsrc : (sFlat kh).view.WordExact} {hdst : (rFlat kh).view.WordExact}
    {hsem : DmaTarget.Typed .vmem (.dma (recvS kh)) (.remote (Dev.tc n : Thread nD τ) (rFlat kh) (.dma (sendS kh)) hsc)}
    {k : PUnit → Prog (TpuEff nD τ sig (Elt F) Λ₀ .tc) α} :
    stage m ρ c K i j o
      ⊢ iprop((stage m ρ c K (i + 1) j o -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (slotR kh) hl) fun _ => .op (.store sM (slotR kh) w Finset.univ hx hm) fun _ =>
                .op (.enqueueDma (sFlat kh) (.remote (Dev.tc n : Thread nD τ) (rFlat kh) (.dma (sendS kh)) hsc) (.dma (recvS kh)) hsrc hdst hsem) k) Q) := by
  unfold stage; rw [hi, ht]
  exact pump_put m ρ K c kh _ _ _ _ _ n hn w hw

theorem stage_get {α : Type} {Q : α → sProp 𝕄} (i j o : ℕ) (kh : KH) (hj : (order.take i).drop j = kh :: (order.take i).drop (j + 1))
    (hd : order.take (j + 1) = order.take j ++ [kh]) (hlt : ∀ kh' ∈ order.drop i, kh.1.val < kh'.1.val)
    {h1 : (rFlat kh).view.WordExact} {h2 : (sFlat kh).view.WordExact} {h3 : (sFlat kh).view.WordExact} {h4 : (rFlat kh).view.WordExact}
    {hl : (sM : Memref sig .tc .vmem S3x4x128x256 .bf16).view.LoadsAt (slotR kh)}
    {hl' : (rM : Memref sig .tc .vmem S3x4x128x256 .bf16).view.LoadsAt (slotR kh)}
    {k : FVec F S1x1x128x256 .bf16 → FVec F S1x1x128x256 .bf16 → Prog (TpuEff nD τ sig (Elt F) Λ₀ .tc) α} :
    stage m ρ c K i j o
      ⊢ iprop((stage m ρ c K i (j + 1) o -∗ wp frame (wpE (defs₀ (F := F)) 𝒱₀ (c : Thread nD τ) none) Set.univ
                (k (acc m ρ kh.1.val c kh.2) (acc m ρ kh.1.val (peer kh.1.val c) kh.2)) Q)
          -∗ wp frame (wpE (defs₀ (F := F)) 𝒱₀ (c : Thread nD τ) none) Set.univ
              (.op (.waitDma2 (sendS kh) (rFlat kh) (sFlat kh) h1 h2) fun _ => .op (.waitDma2 (recvS kh) (sFlat kh) (rFlat kh) h3 h4) fun _ =>
                .op (.load sM (slotR kh) hl) fun v => .op (.load rM (slotR kh) hl') fun v' => k v v') Q) := by
  unfold stage; rw [hj, hd]
  exact pump_get m ρ K c kh _ _ _ _ _ hlt

theorem stage_out {α : Type} {Q : α → sProp 𝕄} (i j o : ℕ) (h : Fin 4) (ho : rows.drop o = h :: rows.drop (o + 1))
    (hd : rows.take (o + 1) = rows.take o ++ [h]) (w : FVec F S128x256 .f32) (hw : w = outRow m ρ c h)
    {hl : (oM : Memref sig .tc .vmem S512x256 .f32).view.LoadsAt (rowR h)}
    {hx : ((oM : Memref sig .tc .vmem S512x256 .f32).access (rowR h)).Stores Finset.univ}
    {hm : (Finset.univ : Finset (rowR h).shape.Idx) = Finset.univ ∨ ∀ a, (rowR h).stride a = 1}
    {k : PUnit → Prog (TpuEff nD τ sig (Elt F) Λ₀ .tc) α} :
    stage m ρ c K i j o
      ⊢ iprop((stage m ρ c K i j (o + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (rowR h) hl) fun _ => .op (.store oM (rowR h) w Finset.univ hx hm) k) Q) := by
  unfold stage; rw [ho, hd]
  exact pump_out m ρ K c h _ _ _ _ _ w hw

theorem stage_intro : iprop(records m ρ K ∗ levAts L lv ∗ bigSepL order (ready (F := F) c) ∗ owing c order ∗ bigSepL rows (blank (F := F) c))
    ⊢ stage m ρ c K 0 0 0 := by
  show _ ⊢ pump m ρ K c order [] [] rows []
  unfold pump
  iintro ⟨HK, Hlev, HR, HO, HB⟩
  isplitl [HK]; · iexact HK
  isplitl [Hlev]; · iexact Hlev
  isplitl [HR]; · iexact HR
  isplitr; · rw [bigSepL_nil]; iempintro
  isplitr; · rw [bigSepL_nil]; iempintro
  isplitl [HO]; · iexact HO
  isplitl [HB]; · iexact HB
  rw [bigSepL_nil]; iempintro

theorem stage_exit : stage m ρ c K 12 12 4
    ⊢ iprop((bigSep Finset.univ fun kh : KH => closed m ρ c kh) ∗ owing c [] ∗ stg c cc0_stg1_0 (outAt m ρ c)) := by
  show pump m ρ K c [] [] order [] rows ⊢ _
  unfold pump rows
  rw [← bigSep_univ_eq_bigSepL order order_univ order_nodup]
  iintro ⟨-, -, -, -, HD, HO, -, HW⟩
  isplitl [HD]; · iexact HD
  isplitl [HO]; · iexact HO
  iapply (results m ρ c); iexact HW

end Steps

set_option maxHeartbeats 4000000 in
/-- The body from its start to its end, one rule for each group of operations in program order. -/
theorem sound_body (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part20_eq_skeleton]; unfold k0_part20_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId]
  unfold bodyPre Φ₀ start kit credits barToks
  iintro ⟨⟨⟨⟨⟨%K, #HK, Hpl, Hbt, Hst⟩, ⟨Hcb, Hcr⟩, #Hlev⟩, Hscr⟩, Ho, ⟨%d0, %g0, %hg0, Hx⟩, ⟨%d1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave Hs := (slots_cut (F := F) c) $$ Hscr
  icases Hs with ⟨Hsl, Hfr⟩
  ihave Hp := (starts_split (F := F) c) $$ [Hpl Hcr]
  · isplitl [Hpl] <;> iassumption
  icases Hp with ⟨HaB, Hat⟩
  ihave HB := (blanks (F := F) c _) $$ Hout
  ihave Hbt' := (Entails.of_eq (bigSep_fin3 _)) $$ Hbt
  ihave Hfr' := (Entails.of_eq (bigSep_fin3 _)) $$ Hfr
  icases Hbt' with ⟨Ht0, Ht1, Ht2⟩
  icases Hfr' with ⟨Hf0, Hf1, Hf2⟩
  unfold O₀
  -- the three signals
  iapply (step_signal m ρ c K 0 _ (dev_sig c).1 _ W rfl) $$ [Ht0 Hf0 HO]
  · isplitr; · iexact HK
    isplitl [Ht0]; · iexact Ht0
    isplitl [Hf0]; · iexact Hf0
    iexact HO
  iintro HO
  iapply (step_signal m ρ c K 1 _ (dev_sig c).2.1 _ W rfl) $$ [Ht1 Hf1 HO]
  · isplitr; · iexact HK
    isplitl [Ht1]; · iexact Ht1
    isplitl [Hf1]; · iexact Hf1
    iexact HO
  iintro HO
  iapply (step_signal m ρ c K 2 _ (dev_sig c).2.2 _ W rfl) $$ [Ht2 Hf2 HO]
  · isplitr; · iexact HK
    isplitl [Ht2]; · iexact Ht2
    isplitl [Hf2]; · iexact Hf2
    iexact HO
  iintro HO
  -- the barrier
  iapply (step_barrier m ρ c K W rfl) $$ [Hcb HaB HO]
  · isplitr; · iexact HK
    isplitr; · iexact Hlev
    isplitl [Hcb]; · iexact Hcb
    isplitl [HaB]; · iexact HaB
    iexact HO
  iintro ⟨Hbp, HzB, HO⟩
  ihave HR := (readies (F := F) c) $$ [Hsl Hbp Hst Hat]
  · isplitl [Hsl]; · iexact Hsl
    isplitl [Hbp]; · iexact Hbp
    isplitl [Hst] <;> iassumption
  ihave HS := (stage_intro m ρ c K) $$ [HR HO HB]
  · isplitr; · iexact HK
    isplitr; · iexact Hlev
    isplitl [HR]; · iexact HR
    isplitl [HO]; · iexact HO
    iexact HB
  -- step 0: each chunk of the block is read, put in its slot and sent
  iapply (wp_load 𝒱₀ (c : Thread nD τ) none Set.univ (m := xM) (Finset.subset_univ _)) $$ Hx; iintro Hx
  iapply (stage_put m ρ c K 0 0 0 (0, 0) rfl rfl _ (dev_step0 c).1 _ rfl) $$ HS; iintro HS
  iapply (wp_load 𝒱₀ (c : Thread nD τ) none Set.univ (m := xM) (Finset.subset_univ _)) $$ Hx; iintro Hx
  iapply (stage_put m ρ c K 1 0 0 (0, 1) rfl rfl _ (dev_step0 c).2.1 _ rfl) $$ HS; iintro HS
  iapply (wp_load 𝒱₀ (c : Thread nD τ) none Set.univ (m := xM) (Finset.subset_univ _)) $$ Hx; iintro Hx
  iapply (stage_put m ρ c K 2 0 0 (0, 2) rfl rfl _ (dev_step0 c).2.2.1 _ rfl) $$ HS; iintro HS
  iapply (wp_load 𝒱₀ (c : Thread nD τ) none Set.univ (m := xM) (Finset.subset_univ _)) $$ Hx; iintro Hx
  iapply (stage_put m ρ c K 3 0 0 (0, 3) rfl rfl _ (dev_step0 c).2.2.2 _ rfl) $$ HS; iintro HS
  -- steps 1 and 2: each transfer waited for, the sum sent on
  iapply (stage_get m ρ c K 4 0 0 (0, 0) rfl rfl (by decide)) $$ HS; iintro HS
  iapply (stage_put m ρ c K 4 1 0 (1, 0) rfl rfl _ (dev_step1 c).1 _ rfl) $$ HS; iintro HS
  iapply (stage_get m ρ c K 5 1 0 (0, 1) rfl rfl (by decide)) $$ HS; iintro HS
  iapply (stage_put m ρ c K 5 2 0 (1, 1) rfl rfl _ (dev_step1 c).2.1 _ rfl) $$ HS; iintro HS
  iapply (stage_get m ρ c K 6 2 0 (0, 2) rfl rfl (by decide)) $$ HS; iintro HS
  iapply (stage_put m ρ c K 6 3 0 (1, 2) rfl rfl _ (dev_step1 c).2.2.1 _ rfl) $$ HS; iintro HS
  iapply (stage_get m ρ c K 7 3 0 (0, 3) rfl rfl (by decide)) $$ HS; iintro HS
  iapply (stage_put m ρ c K 7 4 0 (1, 3) rfl rfl _ (dev_step1 c).2.2.2 _ rfl) $$ HS; iintro HS
  iapply (stage_get m ρ c K 8 4 0 (1, 0) rfl rfl (by decide)) $$ HS; iintro HS
  iapply (stage_put m ρ c K 8 5 0 (2, 0) rfl rfl _ (dev_step2 c).1 _ rfl) $$ HS; iintro HS
  iapply (stage_get m ρ c K 9 5 0 (1, 1) rfl rfl (by decide)) $$ HS; iintro HS
  iapply (stage_put m ρ c K 9 6 0 (2, 1) rfl rfl _ (dev_step2 c).2.1 _ rfl) $$ HS; iintro HS
  iapply (stage_get m ρ c K 10 6 0 (1, 2) rfl rfl (by decide)) $$ HS; iintro HS
  iapply (stage_put m ρ c K 10 7 0 (2, 2) rfl rfl _ (dev_step2 c).2.2.1 _ rfl) $$ HS; iintro HS
  iapply (stage_get m ρ c K 11 7 0 (1, 3) rfl rfl (by decide)) $$ HS; iintro HS
  iapply (stage_put m ρ c K 11 8 0 (2, 3) rfl rfl _ (dev_step2 c).2.2.2 _ rfl) $$ HS; iintro HS
  -- the last transfers, and the result
  iapply (stage_get m ρ c K 12 8 0 (2, 0) rfl rfl (by decide)) $$ HS; iintro HS
  iapply (stage_out m ρ c K 12 9 0 0 rfl rfl _ rfl) $$ HS; iintro HS
  iapply (stage_get m ρ c K 12 9 1 (2, 1) rfl rfl (by decide)) $$ HS; iintro HS
  iapply (stage_out m ρ c K 12 10 1 1 rfl rfl _ rfl) $$ HS; iintro HS
  iapply (stage_get m ρ c K 12 10 2 (2, 2) rfl rfl (by decide)) $$ HS; iintro HS
  iapply (stage_out m ρ c K 12 11 2 2 rfl rfl _ rfl) $$ HS; iintro HS
  iapply (stage_get m ρ c K 12 11 3 (2, 3) rfl rfl (by decide)) $$ HS; iintro HS
  iapply (stage_out m ρ c K 12 12 3 3 rfl rfl _ rfl) $$ HS; iintro HS
  rw [wp_ret]; imodintro
  ihave H := (stage_exit m ρ c K) $$ HS
  icases H with ⟨Hcl, HO, Hout⟩
  unfold owing
  icases HO with ⟨%W', HO⟩
  iapply Hk
  unfold bodyPost Φ₁ Dat.owesAt Pipeline.owesWithin
  rw [show (dats m ρ 0 c).owed t0_0.succ = 0 from rfl]
  isplitl [Hcl HzB]; · isplitl [Hcl] <;> iassumption
  isplitl [HO]
  · iexists W'
    isplitr; · ipureintro; exact fun _ _ => Or.inl trivial
    iexact HO
  isplitl [Hx]
  · iexists _; isplitr; · (ipureintro; rfl)
    iexact Hx
  iexact Hout

/-- The library's body obligation on one device. -/
theorem body_obligation : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

end Cert.AllReduce

end
-- ==== Proof.Run.lean ====
/-
# The launch

The cells, tokens and credits dealt to the devices, the duty tokens passed to the partners that pay them, and the run of
the whole program: it ends, with every counter at zero, `t` unchanged and the result array as the body wrote it.
-/
module

public import proofs.«01_k».proof.Proof.Sound
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at launch -/

theorem ownSemFacts : Pipeline.OwnSemFacts cfg0.spec osem where
  isScoped x := by rcases x with a | a <;> (revert a; decide +kernel)
  inj := osem_inj
  disj x w s h := by
    have hs : ∀ w s, ((cfg0.spec w).sem s).val < 2 := by decide +kernel
    rcases x with a | a
    · have h' := congrArg Fin.val (SemLoc.dma.inj h); rw [sendS_val] at h'; have := hs w s; omega
    · have h' := congrArg Fin.val (SemLoc.dma.inj h); rw [recvS_val] at h'; have := hs w s; omega

theorem share_eq (c : Dev nD) (w : Fin cfg0.W) : (dats m ρ 0 c).share w = fullShare := by unfold Dat.share; split <;> rfl

theorem cell_inj : Function.Injective fun ci : Dev nD × CI => cell ci.1 ci.2 := by
  rintro ⟨c, i⟩ ⟨c', i'⟩ h
  exact Prod.ext (congrArg (fun g : GSem nD τ sig => g.1.1) h) (csem_inj (congrArg Prod.snd h))

theorem cell_eq {c c' : Dev nD} {i i' : CI} (h : cell c i = cell c' i') : c = c' ∧ i = i' :=
  Prod.ext_iff.mp (cell_inj (a₁ := (c, i)) (a₂ := (c', i')) h)

def allCells : Finset (GSem nD τ sig) := Finset.univ.map ⟨fun ci : Dev nD × CI => cell ci.1 ci.2, cell_inj⟩

/-- The duty tokens of a device's own cells: the barrier's three, each transfer cell's one. -/
abbrev tokOf (cj : Dev nD × (Fin 3 ⊕ KX)) : GSem nD τ sig × ℕ × Fin 3 :=
  match cj.2 with
  | .inl k => (cell cj.1 (.inl ()), 0, k)
  | .inr x => (cell cj.1 (.inr x), 0, 0)

theorem tokOf_inj : Function.Injective tokOf := by
  rintro ⟨c, k | x⟩ ⟨c', k' | x'⟩ h
  · exact Prod.ext (cell_eq (congrArg Prod.fst h)).1 (congrArg (fun t : GSem nD τ sig × ℕ × Fin 3 => Sum.inl t.2.2) h)
  · exact absurd (cell_eq (congrArg Prod.fst h)).2 (fun h => by cases h)
  · exact absurd (cell_eq (congrArg Prod.fst h)).2 (fun h => by cases h)
  · have h' := cell_eq (congrArg Prod.fst h); exact Prod.ext h'.1 (congrArg Sum.inr (Sum.inr.inj h'.2))

def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

def toks (c : Dev nD) : sProp 𝕄 :=
  iprop((bigSep Finset.univ fun k : Fin 3 => dutyTok ER (cell c (.inl ())) 0 k)
    ∗ (bigSep Finset.univ fun kh : KH => dutyTok ER (cell c (.inr (.inl kh))) 0 0)
    ∗ bigSep Finset.univ fun kh : KH => dutyTok ER (cell c (.inr (.inr kh))) 0 0)

/-- What the launch deals a device: its cells' states, its places in them, and their duty tokens. -/
def G (c : Dev nD) : sProp 𝕄 :=
  iprop((bigSep Finset.univ fun i : CI => roundState ER (sched m ρ) (cell c i) 0)
    ∗ (places c ∗ bigSep Finset.univ fun i : CI => reached ER (cell c i) 0) ∗ toks c)

/-- What the devices have once the tokens have gone to those that pay. -/
def G' (c : Dev nD) : sProp 𝕄 := iprop(∃ K, records m ρ K ∗ kit c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_sum', bigSep_sum']; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_at_zero (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cell c i) 0 : sProp 𝕄) := by
  rw [unscopedSems0_eq, bigSep_sum', show (Finset.univ : Finset Unit) = {()} from rfl, bigSep_singleton]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (sched m ρ) κ (cell c i)))
          ∗ (places c ∗ bigSep Finset.univ fun i : CI => reached ER (cell c i) 0) ∗ toks c) := by
  unfold G
  iintro ⟨Hos, Hus, Hst, Hat, Htok⟩
  ihave Hv := (sems_at_zero (F := F) c) $$ [Hos Hus]
  · isplitl [Hos] <;> iassumption
  imod (show iprop((bigSep Finset.univ fun i : CI => semVal (cell c i) 0) ∗ bigSep Finset.univ fun i : CI => roundState ER (sched m ρ) (cell c i) 0)
      ⊢ (|={Set.univ}=> bigSep Finset.univ fun i => iprop(∃ κ : ℕ, cellInv ER (sched m ρ) κ (cell c i)) : sProp 𝕄) from by
        rw [← bigSep_sep']
        exact (bigSep_mono fun i _ => (Rounds.body_intro ER (sched m ρ) (cell c i)).trans inv_alloc).trans (bigSep_fupd _ _)) $$ [Hv Hst] with Hinv
  · isplitl [Hv] <;> iassumption
  imodintro
  isplitl [Hinv]; · iexact Hinv
  isplitl [Hat] <;> iassumption

/-- The tokens change hands between partners: a barrier's `k`-th to the step-`k` partner, a receive cell's to the partner
    of its step. The send cells' stay. -/
theorem toks_around : (bigSep Finset.univ fun c : Dev nD => (toks c : sProp 𝕄))
    ⊢ iprop((bigSep Finset.univ fun c : Dev nD => barToks c) ∗ bigSep Finset.univ fun c : Dev nD => bigSep Finset.univ (sendToks (F := F) c)) := by
  have hB : (bigSep Finset.univ fun c : Dev nD => bigSep Finset.univ fun k : Fin 3 => (dutyTok ER (cell c (.inl ())) 0 k : sProp 𝕄))
      = bigSep Finset.univ fun c : Dev nD => barToks c := by
    unfold barToks
    rw [bigSep_univ_comm, bigSep_univ_comm ( fun (c : Dev nD) (k : Fin 3) => dutyTok ER (cell (peer k.val c) (.inl ())) 0 k)]
    exact bigSep_congr fun k _ => bigSep_univ_equiv (swap k.val) (fun c : Dev nD => (dutyTok ER (cell c (.inl ())) 0 k : sProp 𝕄))
  have hR : (bigSep Finset.univ fun c : Dev nD => bigSep Finset.univ fun kh : KH => (dutyTok ER (cell c (.inr (.inr kh))) 0 0 : sProp 𝕄))
      = bigSep Finset.univ fun c : Dev nD => bigSep Finset.univ fun kh : KH => dutyTok ER (cell (peer kh.1.val c) (.inr (.inr kh))) 0 0 := by
    rw [bigSep_univ_comm, bigSep_univ_comm ( fun (c : Dev nD) (kh : KH) => dutyTok ER (cell (peer kh.1.val c) (.inr (.inr kh))) 0 0)]
    exact bigSep_congr fun kh _ => bigSep_univ_equiv (swap kh.1.val) (fun c : Dev nD => (dutyTok ER (cell c (.inr (.inr kh))) 0 0 : sProp 𝕄))
  unfold toks sendToks
  simp only [bigSep_sep']
  rw [hB, hR]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m ρ) κ (cell c i)))
          ∗ (places c ∗ bigSep Finset.univ fun i : CI => reached ER (cell c i) 0) ∗ toks c) : sProp 𝕄)
      ⊢ bigSep Finset.univ (G' m ρ) := by
  rw [bigSep_sep', bigSep_sep', bigSep_sep', ← bigSep_univ_prod (fun ci : Dev nD × CI => iprop(∃ κ : ℕ, cellInv ER (sched m ρ) κ (cell ci.1 ci.2))),
    ← bigSep_univ_prod (fun ci : Dev nD × CI => (reached ER (cell ci.1 ci.2) 0 : sProp 𝕄))]
  iintro ⟨HI, ⟨Hat, #HR⟩, Htok⟩
  ihave HK := (BI.bigSep_exists_pi Finset.univ (fun (ci : Dev nD × CI) (κ : ℕ) => (cellInv ER (sched m ρ) κ (cell ci.1 ci.2) : sProp 𝕄))) $$ HI
  icases HK with ⟨%K, #HI⟩
  ihave Htk := (toks_around (F := F)) $$ Htok
  icases Htk with ⟨Hb, Hs⟩
  iapply (with_persistent (R := records m ρ K) (Φ := kit) fun c _ => show _ ⊢ G' m ρ c from by
    unfold G'; iintro ⟨HK, Hk⟩; iexists K; isplitl [HK] <;> iassumption)
  isplitr
  · unfold records; isplitl; · iexact HI
    iexact HR
  · unfold kit; simp only [bigSep_sep']
    isplitl [Hat]; · iexact Hat
    isplitl [Hb] <;> iassumption

/-- All cells of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credits at launch -/

theorem bar_peer_iff {k : ℕ} {d c : Dev nD} : Iff (barCell c = barCell (peer k d)) (d = peer k c) :=
  ⟨fun h => by rw [(cell_eq (i := .inl ()) (i' := .inl ()) h).1, peer_peer], fun h => by rw [h, peer_peer]⟩

theorem recv_peer_iff {k : ℕ} {d c : Dev nD} {a b : KH} : Iff (recvCell c a = recvCell (peer k d) b) (a = b ∧ d = peer k c) :=
  ⟨fun h => by
    have h' := cell_eq (i := .inr (.inr a)) (i' := .inr (.inr b)) h
    exact ⟨Sum.inr.inj (Sum.inr.inj h'.2), by rw [h'.1, peer_peer]⟩, fun h => by rw [h.1, h.2, peer_peer]⟩

/-- One unit for each partner whose barrier it is. -/
theorem owed_bar (d c : Dev nD) : O₀ d (barCell c) ()
    = (if d = peer 2 c then 1 else 0) + (if d = peer 1 c then 1 else 0) + (if d = peer 0 c then 1 else 0) := by
  have hd : debt d order (barCell c) () = 0 := Nat.eq_zero_of_not_pos fun h => by
    obtain ⟨kh, _, he⟩ := debt_pos h
    have := (cell_eq (i := .inl ()) (i' := .inr (.inr kh)) he).2; cases this
  have ht (k : ℕ) : tallyAt (barCell (peer k d)) () 1 (barCell c) () = if d = peer k c then 1 else 0 := by
    rw [tallyAt_apply]; exact if_congr ((and_iff_left rfl).trans bar_peer_iff) rfl rfl
  unfold O₀
  rw [Pi.add_apply, Finsupp.add_apply, Pi.add_apply, Finsupp.add_apply, Pi.add_apply, Finsupp.add_apply, hd, ht, ht, ht, Nat.zero_add]

theorem debt_recv (d c : Dev nD) (kh : KH) : ∀ l : List KH, l.Nodup →
    debt d l (recvCell c kh) () = if kh ∈ l ∧ d = peer kh.1.val c then N else 0
  | [], _ => by rw [if_neg fun h => List.not_mem_nil h.1]; rfl
  | a :: l, hn => by
    unfold debt
    rw [Pi.add_apply, Finsupp.add_apply, tallyAt_apply, debt_recv d c kh l (List.nodup_cons.mp hn).2]
    by_cases ha : kh = a
    · subst ha
      rw [if_neg (fun h : kh ∈ l ∧ d = peer kh.1.val c => (List.nodup_cons.mp hn).1 h.1), Nat.zero_add]
      exact if_congr ⟨fun h => ⟨List.mem_cons_self, (recv_peer_iff.mp h.1).2⟩, fun h => ⟨recv_peer_iff.mpr ⟨rfl, h.2⟩, rfl⟩⟩ rfl rfl
    · rw [if_neg (fun h : recvCell c kh = recvCell (peer a.1.val d) a ∧ () = () => ha (recv_peer_iff.mp h.1).1), Nat.add_zero]
      exact if_congr ⟨fun h => ⟨List.mem_cons_of_mem _ h.1, h.2⟩, fun h => ⟨(List.mem_cons.mp h.1).resolve_left ha, h.2⟩⟩ rfl rfl

/-- A slot's whole transfer from the partner. -/
theorem owed_recv (d c : Dev nD) (kh : KH) : O₀ d (recvCell c kh) () = if d = peer kh.1.val c then N else 0 := by
  have hne (k : ℕ) : recvCell c kh ≠ barCell (peer k d) := fun h => by
    have := (cell_eq (i := .inr (.inr kh)) (i' := .inl ()) h).2; cases this
  unfold O₀
  rw [Pi.add_apply, Finsupp.add_apply, Pi.add_apply, Finsupp.add_apply, Pi.add_apply, Finsupp.add_apply, tallyAt_ne_cell (hne 2), tallyAt_ne_cell (hne 1),
    tallyAt_ne_cell (hne 0), debt_recv d c kh order order_nodup, Finsupp.zero_apply]
  simp only [Nat.add_zero]
  exact if_congr (and_iff_right (mem_order kh)) rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (c : Dev nD) (kh : KH) :
    tallyOn (recvCell c kh) (launchCredit (Pipeline.owing O₀) 0 (recvCell c kh)) = (tallyAt (recvCell c kh) () N : CellTallies nD τ sig Unit) := by
  unfold tallyAt; refine congrArg _ (Finsupp.ext fun u => ?_); cases u
  rw [Pipeline.launchCredit_owing, Finsupp.single_eq_same, Finset.sum_congr rfl fun d _ => owed_recv d c kh, Finset.sum_ite_eq' Finset.univ (peer kh.1.val c) fun _ => N,
    if_pos (Finset.mem_univ _)]

theorem creds (c : Dev nD) : (Pipeline.launchCred O₀ c : sProp 𝕄) ⊢ credits c := by
  have hsub : (Finset.univ : Finset KH).map ⟨fun kh => SemLoc.dma (recvS kh), fun a b h => recvS_inj (SemLoc.dma.inj h)⟩
      ⊆ (Finset.univ : Finset (SemLoc sig)).erase (SemLoc.reg barS) := fun x hx => by
    obtain ⟨kh, _, rfl⟩ := Finset.mem_map.mp hx
    exact Finset.mem_erase.mpr ⟨(fun h => by cases h), Finset.mem_univ _⟩
  unfold Pipeline.launchCred credits
  rw [bigSep_univ_at _ (SemLoc.reg barS), launch_bar]
  refine sep_mono_right ((bigSep_subset hsub).trans ?_)
  rw [bigSep_map]
  exact bigSep_mono fun kh _ => Entails.of_eq (congrArg cred (launch_recv c kh))

/-! ## In and out of the body -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- A scratch buffer whose slots are held at given contents. -/
theorem slots_whole (c : Dev nD) (b : Ref sig .tc) {T : Type} [Fintype T] [DecidableEq T] (r : T → Rect b.ty.shape) (hr : ∀ t a, (r t).stride a = 1)
    (hd : ∀ t t', t ≠ t' → Disjoint (r t).set (r t').set) (hcov : (Finset.univ : Finset T).biUnion (fun t => (r t).set) = Finset.univ)
    (V : (t : T) → (r t).shape.Idx → Elt F b.ty.elt) :
    (bigSep Finset.univ fun t => owns (c : Thread nD τ) ((Memref.whole b).slice (r t) (hr t)) fullShare (V t) : sProp 𝕄)
      ⊢ iprop(∃ f : Buf (Elt F) ((c : Thread nD τ).loc b), ((c : Thread nD τ).loc b) ↦{fullShare} f) := by
  iintro H
  iexists (Rect.glue r hcov V)
  iapply (whole_of_pieces c b r hr hd hcov (Rect.glue r hcov V))
  iapply (Entails.of_eq (bigSep_congr fun t _ => show (owns (c : Thread nD τ) ((Memref.whole b).slice (r t) (hr t)) fullShare (V t) : sProp 𝕄)
      = owns (c : Thread nD τ) ((Memref.whole b).slice (r t) (hr t)) fullShare (fun j => Rect.glue r hcov V ((r t).emb j)) from
    congrArg _ (funext fun j => (Rect.glue_emb r hcov hd V t j).symm)))
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ closed Pipeline.ownSems0
  simp only [bigSep_sep', bigSep_sum']
  iintro ⟨⟨Hs, Hl, HzS, HzR⟩, HzB⟩
  isplitl [HzB]; · iexact HzB
  isplitl [HzS HzR]
  · isplitl [HzS] <;> iassumption
  isplitl [Hs]
  · iapply (slots_whole c cc0_scratch0 slotR (fun _ _ => rfl) slot_disjoint slot_cover fun kh => acc m ρ kh.1.val c kh.2)
    unfold sentSlot; iexact Hs
  · iapply (slots_whole c cc0_scratch1 slotR (fun _ _ => rfl) slot_disjoint slot_cover fun kh => acc m ρ kh.1.val (peer kh.1.val c) kh.2)
    unfold landedSlot; iexact Hl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the program on eight devices ends, with the arrays at the contents computed and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem at_zero_arg : (fun a => (win0_0.index (0 : Fin 1)) a * main_arg0.ty.shape.size a) = fun _ => 0 :=
  funext fun a => by fin_cases a <;> decide
theorem at_zero_out : (fun a => (win0_1.index (0 : Fin 1)) a * main_v1.ty.shape.size a) = fun _ => 0 :=
  funext fun a => by fin_cases a <;> decide

/-- The staged block is all of `t`. -/
theorem xstg_eq (c : Dev nD) : xstg m ρ c = m ((c : Thread nD τ).loc main_arg0) :=
  Memref.read_access_unit_zero (Elt F) main_arg0 at_zero_arg (fun a => by fin_cases a <;> decide) (m ((c : Thread nD τ).loc main_arg0))

/-- `t` after the run is what it was. -/
theorem finalA_arg (c : Dev nD) : finalA m ρ c (0 : Fin 2) = m ((c : Thread nD τ).loc main_arg0) :=
  (dats (F := F) m ρ 0 c).arrAt_in (0 : Fin 2) rfl _

/-- The result array after the run is the body's result: its one block is written whole. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 at_zero_out (fun a => by fin_cases a <;> decide) (finalA m ρ c (1 : Fin 2))).symm.trans h

/-- The run, read at the two arrays. -/
theorem run_arrays : θ_run defs (onTc (τ := τ) (main (F := F))) ⟨m, fun _ => 0, ρ⟩ (fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (finalA_out m ρ c), (h.1 c (0 : Fin 2)).trans (finalA_arg m ρ c)⟩, h.2⟩)
    (run_main m ρ)

/-- The run as a frame states it. -/
theorem run_frame : θ_run (defs (F := F)) (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_arrays m ρ)

end Cert.AllReduce

end
-- ==== Proof.Value.lean ====
/-
# The value

Over the extended reals a device's result is the function of the reference at the sum of the eight blocks: the exchange
adds the blocks in the order of a walk over the hypercube, which visits every device once.
-/
module

public import proofs.«01_k».proof.Proof.Run
public import proofs.«01_k».proof.Proof.Gen.ReferenceIdeal.Run
public import proofs.«01_k».proof.Proof.Gen.ReferenceIdeal.Read
public import Idealize.ShloMosaic.Lib.IdealHost
public import Idealize.ShloMosaic.Lib.Layout
public import Idealize.ShloMosaic.Lib.Pipeline.Value

@[expose] public section

noncomputable section

namespace Cert.AllReduce

open Cert.KernelIdeal Cert.KernelIdeal.Gen
open Idealize.ShloMosaic
open Idealize.ShloMosaic.TcCoe
open Idealize.SL.Sem
open scoped BigOperators

/-! ## The kernel's values at an index -/

/-- A chunk's index as a slot's. -/
def up (j : S128x256.Idx) : S1x1x128x256.Idx := fun
  | ⟨0, _⟩ => (0 : Fin 1)
  | ⟨1, _⟩ => (0 : Fin 1)
  | ⟨2, _⟩ => j (0 : Fin 2)
  | ⟨3, _⟩ => j (1 : Fin 2)

theorem up_rowMajor (j : S128x256.Idx) : (S1x1x128x256.rowMajor (up j)).val = (S128x256.rowMajor j).val := by
  rw [Shape.rowMajor_val_four, Shape.rowMajor_val_two]
  show ((0 * 1 + 0) * 128 + (j (0 : Fin 2)).val) * 256 + (j (1 : Fin 2)).val = (j (0 : Fin 2)).val * 256 + (j (1 : Fin 2)).val
  omega

theorem flat_apply {α : Type} (w : S1x1x128x256.Idx → α) (h : S1x1x128x256.ShapeCasts S128x256) (j : S128x256.Idx) :
    shapeCast S128x256 w h j = w (up j) := shapeCast_apply w h j (up j) (up_rowMajor j)
theorem slot_apply {α : Type} (w : S128x256.Idx → α) (h : S128x256.ShapeCasts S1x1x128x256) (j : S128x256.Idx) :
    shapeCast S1x1x128x256 w h (up j) = w j := shapeCast_apply w h (up j) j (up_rowMajor j).symm
theorem same_apply {α : Type} (w : S128x256.Idx → α) (h : S128x256.ShapeCasts S128x256) (j : S128x256.Idx) :
    shapeCast S128x256 w h j = w j := shapeCast_apply w h j j rfl

/-- What both programs apply to the sum. -/
def act (s : EReal) : EReal := Ideal.tanh s * s * s + max s 0 * max s 0 * max s 0

variable (m : (ℓ : Loc nD τ sig) → Buf (Elt Ideal) ℓ) (ρ : Dev nD → PrngReg)

/-- Device `d`'s block at an index. -/
def blockAt (i : S512x256.Idx) (d : Dev nD) : EReal := m ((d : Thread nD τ).loc main_arg0) i

theorem acc_zero (c : Dev nD) (h : Fin 4) (j : S128x256.Idx) : acc m ρ 0 c h (up j) = blockAt m ((rowR h).emb j) c := by
  show k0_pay2 (F := Ideal) _ (up j) = _
  unfold k0_pay2
  rw [slot_apply, same_apply, xstg_eq]
  rfl

theorem acc_succ (k : ℕ) (c : Dev nD) (h : Fin 4) (j : S128x256.Idx) :
    acc m ρ (k + 1) c h (up j) = (acc m ρ k c h (up j) + acc m ρ k (peer k c) h (up j) : EReal) := by
  show k0_pay9 (F := Ideal) _ _ (up j) = _
  unfold k0_pay9
  rw [slot_apply]
  exact congrArg₂ (fun a b : EReal => a + b) (flat_apply _ _ j) (flat_apply _ _ j)

theorem outRow_apply (c : Dev nD) (h : Fin 4) (j : S128x256.Idx) : outRow m ρ c h j = act (acc m ρ 3 c h (up j)) := by
  rw [acc_succ]
  unfold outRow k0_pay16
  have hs : (extf .f32 (addf (shapeCast S128x256 (acc m ρ 2 c h) shapeCasts_S1x1x128x256_S128x256 : FVec Ideal S128x256 .bf16)
      (shapeCast S128x256 (acc m ρ 2 (peer 2 c) h) shapeCasts_S1x1x128x256_S128x256)) bitsLt_bf16_f32 : FVec Ideal S128x256 .f32) j
      = (acc m ρ 2 c h (up j) + acc m ρ 2 (peer 2 c) h (up j) : EReal) :=
    congrArg₂ (fun a b : EReal => a + b) (flat_apply _ _ j) (flat_apply _ _ j)
  have hz : (Scalar.ofBits .f32 0x00000000#32 : Ideal .f32) = (0 : EReal) := Ideal.ofBits_zero_f32
  rw [hz]
  revert hs
  generalize (extf .f32 (addf (shapeCast S128x256 (acc m ρ 2 c h) shapeCasts_S1x1x128x256_S128x256 : FVec Ideal S128x256 .bf16)
      (shapeCast S128x256 (acc m ρ 2 (peer 2 c) h) shapeCasts_S1x1x128x256_S128x256)) bitsLt_bf16_f32 : FVec Ideal S128x256 .f32) = w
  intro hs
  rw [← hs]
  rfl

/-! ## The walk -/

/-- The devices in the order in which the exchange adds their blocks on device `c`. -/
def walk (c : Dev nD) : Fin 8 → Dev nD :=
  ![c, peer 0 c, peer 1 c, peer 0 (peer 1 c), peer 2 c, peer 0 (peer 2 c), peer 1 (peer 2 c), peer 0 (peer 1 (peer 2 c))]

theorem walk_bijective (c : Dev nD) : Function.Bijective (walk c) := by revert c; decide +kernel

theorem acc_sum (c : Dev nD) (h : Fin 4) (j : S128x256.Idx) :
    acc m ρ 3 c h (up j) = (∑ d : Fin 8, blockAt m ((rowR h).emb j) d : EReal) := by
  rw [← (walk_bijective c).sum_comp, Fin.sum_univ_eight]
  simp only [acc_succ, acc_zero]
  simp only [add_assoc]
  rfl

/-- The kernel's result at an index. -/
theorem outAt_apply (c : Dev nD) (i : S512x256.Idx) : outAt m ρ c i = act (∑ d : Fin 8, blockAt m i d) := by
  show outRow m ρ c (chunkOf i) (inChunk i) = _
  rw [outRow_apply, acc_sum, chunk_emb]

/-! ## The reference's value at an index -/

open Cert.ReferenceIdeal.Read in
theorem ref_apply (x : Cert.ReferenceIdeal.S4096x256.Idx → EReal) (i : S512x256.Idx) :
    val_main_v12 (F := Ideal) x i = act (∑ d : Fin 8, x (idx_main_v0 (idx_main_v2 i d))) := by
  have h3 : val_main_v3 (F := Ideal) x i = (∑ d : Fin 8, x (idx_main_v0 (idx_main_v2 i d)) : EReal) := by
    rw [val_main_v3_apply, Ideal.truncf_def, val_main_v2_apply, val_main_cst_apply, Ideal.ofBits_def, Ideal.ofBits_zero_f32, zero_add]
    exact Finset.sum_congr rfl fun d _ => by rw [val_main_v1_apply, Ideal.extf_def, val_main_v0_apply]
  have h5 : val_main_v5 (F := Ideal) x i = (max (∑ d : Fin 8, x (idx_main_v0 (idx_main_v2 i d))) 0 : EReal) := by
    rw [val_main_v5_apply, val_main_v4_apply, val_main_cst_0_apply, h3, Ideal.ofBits_def, Ideal.ofBits_zero_bf16, Ideal.maximumf_def]
  rw [val_main_v12_apply, val_main_v11_apply, val_main_v10_apply, val_main_v9_apply, val_main_v8_apply, val_main_v7_apply, val_main_v6_apply, h5, h3]
  rfl

/-! ## The two together -/

/-- Where a device's block lies in the whole array. -/
theorem block_idx (hT : Layout.Tiles ⟨2, ![512, 256]⟩ ⟨2, ![4096, 256]⟩ 0 8) (i : S512x256.Idx) (d : Fin 8) :
    hT.idx d i = Cert.ReferenceIdeal.Read.idx_main_v0 (Cert.ReferenceIdeal.Read.idx_main_v2 i d) := by
  have h0 : (i (0 : Fin 2)).val < 512 := (i (0 : Fin 2)).isLt
  have h1 : (i (1 : Fin 2)).val < 256 := (i (1 : Fin 2)).isLt
  funext a
  apply Fin.ext
  match a with
  | ⟨0, _⟩ =>
    show d.val * 512 + (i (0 : Fin 2)).val = ((d.val * 512 + (i (0 : Fin 2)).val) * 256 + (i (1 : Fin 2)).val) / 256
    omega
  | ⟨1, _⟩ =>
    show (i (1 : Fin 2)).val = ((d.val * 512 + (i (0 : Fin 2)).val) * 256 + (i (1 : Fin 2)).val) % 256
    omega

theorem value (x : Cert.ReferenceIdeal.S4096x256.Idx → EReal)
    (hx : ∀ d : Dev nD, m ((d : Thread nD τ).loc main_arg0) = Layout.block ⟨2, ![512, 256]⟩ ⟨2, ![4096, 256]⟩ 0 8 d x) (c : Dev nD) :
    outAt m ρ c = Cert.ReferenceIdeal.Read.val_main_v12 (F := Ideal) x := by
  funext i
  rw [outAt_apply, ref_apply]
  refine congrArg act (Finset.sum_congr rfl fun d _ => ?_)
  unfold blockAt
  rw [hx d, Layout.block_apply, block_idx]

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The body tables of the two programs are one: a table is a match on the label, so the two agree label by label. -/
theorem bodies_eq {F : FTy → Type} [FloatOps F] : Cert.Kernel.defs₀ (F := F) = Cert.KernelIdeal.defs₀ (F := F) := by
  refine congrArg Defs.onTc ?_
  funext l x
  match l, x with
  | 0, (t, s) => rfl

/-- So are the tables with the region's own bodies. -/
theorem defs_eq {F : FTy → Type} [FloatOps F] : Cert.Kernel.defs (F := F) = Cert.KernelIdeal.defs (F := F) :=
  congrArg (Pipeline.defs (Cert.KernelIdeal.pcfgs (F := F))) bodies_eq

/-- The kernel leaves its argument, and every counter ends at zero. -/
theorem quiescent_Kernel : Cert.quiescent_Kernel := fun m g _ => by
  rw [defs_eq]
  exact Cert.AllReduce.run_frame (F := Bits) m g

/-- The same over the extended reals. -/
theorem quiescent_KernelIdeal : Cert.quiescent_KernelIdeal := fun m g _ =>
  Cert.AllReduce.run_frame (F := Ideal) m g

/-- The reference leaves its argument. -/
theorem quiescent_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device ends with the reference's result. -/
theorem algebraic : Cert.algebraic_KernelIdeal_ReferenceIdeal := fun m g m' g' _ hx =>
  ⟨Cert.ReferenceIdeal.Read.val_main_v12 (F := Ideal) (m' ((0 : Dev 1).tc.loc Cert.ReferenceIdeal.main_arg0)),
    (θ_run Cert.KernelIdeal.defs _ _).mono
      (fun _ h c => ⟨((h.1 c).1).trans (Cert.AllReduce.value m g _ hx c), (h.1 c).2⟩)
      (Cert.AllReduce.run_arrays (F := Ideal) m g),
    (θ_run Cert.ReferenceIdeal.defs _ _).mono
      (fun _ h => ⟨(h 0).1.trans (Cert.ReferenceIdeal.Read.val_main_v12_eq _), (h 0).2⟩)
      (Cert.ReferenceIdeal.Value.run (F := Ideal) m' g')⟩

theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
